-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "hw" .f32 0x3BA72F05#32 ((196⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x192x14x14 : Shape := ⟨4, ![128, 192, 14, 14]⟩
abbrev S12x64 : Shape := ⟨2, ![12, 64]⟩
abbrev S12 : Shape := ⟨1, ![12]⟩
abbrev S12x192x192 : Shape := ⟨3, ![12, 192, 192]⟩
abbrev S192x64 : Shape := ⟨2, ![192, 64]⟩
abbrev S14x14x128x192 : Shape := ⟨4, ![14, 14, 128, 192]⟩
abbrev S196x128x192 : Shape := ⟨3, ![196, 128, 192]⟩
abbrev S10x192x192 : Shape := ⟨3, ![10, 192, 192]⟩
abbrev S64x12 : Shape := ⟨2, ![64, 12]⟩
abbrev S1x12 : Shape := ⟨2, ![1, 12]⟩
abbrev S4x196x128x192 : Shape := ⟨4, ![4, 196, 128, 192]⟩
abbrev S128x12 : Shape := ⟨2, ![128, 12]⟩
abbrev S12x128x12 : Shape := ⟨3, ![12, 128, 12]⟩
abbrev S12x128x1 : Shape := ⟨3, ![12, 128, 1]⟩
abbrev S128x192 : Shape := ⟨2, ![128, 192]⟩
abbrev S196x16x192 : Shape := ⟨3, ![196, 16, 192]⟩
abbrev S_ : Shape := ⟨0, ![]⟩
abbrev S1x196x16x192 : Shape := ⟨4, ![1, 196, 16, 192]⟩
abbrev S16x192 : Shape := ⟨2, ![16, 192]⟩
abbrev S1x16x1 : Shape := ⟨3, ![1, 16, 1]⟩
abbrev S3136x192 : Shape := ⟨2, ![3136, 192]⟩
abbrev S1x192x192 : Shape := ⟨3, ![1, 192, 192]⟩
abbrev S192x192 : Shape := ⟨2, ![192, 192]⟩
abbrev S128x64 : Shape := ⟨2, ![128, 64]⟩
abbrev S128 : Shape := ⟨1, ![128]⟩
abbrev S128x1 : Shape := ⟨2, ![128, 1]⟩
abbrev S1x128x12 : Shape := ⟨3, ![1, 128, 12]⟩
abbrev S12x128 : Shape := ⟨2, ![12, 128]⟩

abbrev nBuf : Space → Nat
  | .hbm => 20
  | .vmem => 13
  | .smem => 0
  | _ => 0

abbrev bufTy : (tb : Table) → Fin (tcTables nBuf tb) → BufTy
  | .hbm, ⟨0, _⟩ => ⟨S128x192x14x14, .f32⟩
  | .hbm, ⟨1, _⟩ => ⟨S12x64, .f32⟩
  | .hbm, ⟨2, _⟩ => ⟨S12, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S12x192x192, .f32⟩
  | .hbm, ⟨7, _⟩ => ⟨S192x64, .f32⟩
  | .hbm, ⟨8, _⟩ => ⟨S14x14x128x192, .f32⟩
  | .hbm, ⟨9, _⟩ => ⟨S196x128x192, .f32⟩
  | .hbm, ⟨10, _⟩ => ⟨S10x192x192, .f32⟩
  | .hbm, ⟨11, _⟩ => ⟨S10x192x192, .f32⟩
  | .hbm, ⟨12, _⟩ => ⟨S64x12, .f32⟩
  | .hbm, ⟨13, _⟩ => ⟨S1x12, .f32⟩
  | .hbm, ⟨14, _⟩ => ⟨S1x12, .f32⟩
  | .hbm, ⟨15, _⟩ => ⟨S1x12, .f32⟩
  | .hbm, ⟨16, _⟩ => ⟨S1x12, .f32⟩
  | .hbm, ⟨17, _⟩ => ⟨S196x128x192, .f32⟩
  | .hbm, ⟨18, _⟩ => ⟨S14x14x128x192, .f32⟩
  | .hbm, ⟨19, _⟩ => ⟨S128x192x14x14, .f32⟩
  | .local _ .vmem, ⟨0, _⟩ => ⟨S10x192x192, .f32⟩
  | .local _ .vmem, ⟨1, _⟩ => ⟨S192x64, .f32⟩
  | .local _ .vmem, ⟨2, _⟩ => ⟨S64x12, .f32⟩
  | .local _ .vmem, ⟨3, _⟩ => ⟨S1x12, .f32⟩
  | .local _ .vmem, ⟨4, _⟩ => ⟨S1x12, .f32⟩
  | .local _ .vmem, ⟨5, _⟩ => ⟨S1x12, .f32⟩
  | .local _ .vmem, ⟨6, _⟩ => ⟨S1x12, .f32⟩
  | .local _ .vmem, ⟨7, _⟩ => ⟨S4x196x128x192, .bf16⟩
  | .local _ .vmem, ⟨8, _⟩ => ⟨S128x12, .f32⟩
  | .local _ .vmem, ⟨9, _⟩ => ⟨S12x128x12, .f32⟩
  | .local _ .vmem, ⟨10, _⟩ => ⟨S12x128x1, .f32⟩
  | .local _ .vmem, ⟨11, _⟩ => ⟨S128x192, .f32⟩
  | .local _ .vmem, ⟨12, _⟩ => ⟨S196x16x192, .f32⟩
  | _, _ => ⟨S128x192x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![12, 5], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c4_i32 : BitVec 32 := 4#32
  let v3 : BitVec 1 := Scalar.cmpi .slt arg1 c4_i32
  let v4 : BitVec 1 := Scalar.andi v2 v3
  let v5 : BitVec 32 := Scalar.extui v4
  let c0_i32_0 : BitVec 32 := 0#32
  let v6 : BitVec 1 := Scalar.cmpi .ne v5 c0_i32_0
  v6

def k0_off1 (i : grid0.Coords) (c0_i32_16 : BitVec 32) : Fin 3 → Nat :=
  let c0_i32_17 : BitVec 32 := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let c0_i32_18 : BitVec 32 := 0#32
  ![0, v39.toNat, 0]
def k0_off2 (i : grid0.Coords) (c0_i32_16 : BitVec 32) : Fin 4 → Nat :=
  let c0_23 : Index := 0#32
  let c0_24 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v44 : Index := Scalar.indexCast v39
  let c0_25 : Index := 0#32
  ![0, 0, v44.toNat, 0]
def k0_off3 (i : grid0.Coords) (c0_i32_16 : BitVec 32) : Fin 2 → Nat :=
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v49 : Index := Scalar.indexCast v39
  let c0_26 : Index := 0#32
  ![v49.toNat, 0]
def k0_cond2 (i : grid0.Coords) : BitVec 1 :=
  let arg0 : BitVec 32 := BitVec.ofNat 32 (i 0).val
  let c1_i32 : BitVec 32 := 1#32
  let v7 : BitVec 1 := Scalar.cmpi .eq arg0 c1_i32
  let arg1 : BitVec 32 := BitVec.ofNat 32 (i 1).val
  let c4_i32_1 : BitVec 32 := 4#32
  let v8 : BitVec 1 := Scalar.cmpi .slt arg1 c4_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_off4 (i : grid0.Coords) (c0_i32_16 : BitVec 32) : Fin 3 → Nat :=
  let c0 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v41 : Index := Scalar.indexCast v39
  let c0_17 : Index := 0#32
  ![0, v41.toNat, 0]
def k0_off5 (i : grid0.Coords) (c0_i32_16 : BitVec 32) : Fin 4 → Nat :=
  let c0_18 : Index := 0#32
  let c0_19 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v43 : Index := Scalar.indexCast v39
  let c0_20 : Index := 0#32
  ![0, 0, v43.toNat, 0]
def k0_off6 (i : grid0.Coords) (c0_i32_16 : BitVec 32) : Fin 4 → Nat :=
  let c1 : Index := 1#32
  let c0_26 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v58 : Index := Scalar.indexCast v39
  let c0_27 : Index := 0#32
  ![1, 0, v58.toNat, 0]
def k0_off7 (i : grid0.Coords) (c0_i32_16 : BitVec 32) : Fin 2 → Nat :=
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v63 : Index := Scalar.indexCast v39
  let c0_29 : Index := 0#32
  ![v63.toNat, 0]
def k0_cond3 (i : grid0.Coords) : BitVec 1 :=
  let arg0 : BitVec 32 := BitVec.ofNat 32 (i 0).val
  let c2_i32 : BitVec 32 := 2#32
  let v12 : BitVec 1 := Scalar.cmpi .eq arg0 c2_i32
  let arg1 : BitVec 32 := BitVec.ofNat 32 (i 1).val
  let c4_i32_3 : BitVec 32 := 4#32
  let v13 : BitVec 1 := Scalar.cmpi .slt arg1 c4_i32_3
  let v14 : BitVec 1 := Scalar.andi v12 v13
  let v15 : BitVec 32 := Scalar.extui v14
  let c0_i32_4 : BitVec 32 := 0#32
  let v16 : BitVec 1 := Scalar.cmpi .ne v15 c0_i32_4
  v16

def k0_off8 (i : grid0.Coords) (c0_i32_16 : BitVec 32) : Fin 3 → Nat :=
  let c0 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v41 : Index := Scalar.indexCast v39
  let c0_17 : Index := 0#32
  ![0, v41.toNat, 0]
def k0_off9 (i : grid0.Coords) (c0_i32_16 : BitVec 32) : Fin 4 → Nat :=
  let c0_18 : Index := 0#32
  let c0_19 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v43 : Index := Scalar.indexCast v39
  let c0_20 : Index := 0#32
  ![0, 0, v43.toNat, 0]
def k0_off10 (i : grid0.Coords) (c0_i32_16 : BitVec 32) : Fin 3 → Nat :=
  let c1 : Index := 1#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v50 : Index := Scalar.indexCast v39
  let c0_21 : Index := 0#32
  ![1, v50.toNat, 0]
def k0_off11 (i : grid0.Coords) (c0_i32_16 : BitVec 32) : Fin 4 → Nat :=
  let c1_22 : Index := 1#32
  let c0_23 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v52 : Index := Scalar.indexCast v39
  let c0_24 : Index := 0#32
  ![1, 0, v52.toNat, 0]
def k0_off12 (i : grid0.Coords) (c0_i32_16 : BitVec 32) : Fin 4 → Nat :=
  let c2 : Index := 2#32
  let c0_30 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v67 : Index := Scalar.indexCast v39
  let c0_31 : Index := 0#32
  ![2, 0, v67.toNat, 0]
def k0_off13 (i : grid0.Coords) (c0_i32_16 : BitVec 32) : Fin 2 → Nat :=
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v72 : Index := Scalar.indexCast v39
  let c0_33 : Index := 0#32
  ![v72.toNat, 0]
def k0_cond4 (i : grid0.Coords) : BitVec 1 :=
  let arg0 : BitVec 32 := BitVec.ofNat 32 (i 0).val
  let c3_i32_5 : BitVec 32 := 3#32
  let v17 : BitVec 1 := Scalar.cmpi .eq arg0 c3_i32_5
  let arg1 : BitVec 32 := BitVec.ofNat 32 (i 1).val
  let c4_i32_6 : BitVec 32 := 4#32
  let v18 : BitVec 1 := Scalar.cmpi .slt arg1 c4_i32_6
  let v19 : BitVec 1 := Scalar.andi v17 v18
  let v20 : BitVec 32 := Scalar.extui v19
  let c0_i32_7 : BitVec 32 := 0#32
  let v21 : BitVec 1 := Scalar.cmpi .ne v20 c0_i32_7
  v21

def k0_off14 (i : grid0.Coords) (c0_i32_16 : BitVec 32) : Fin 3 → Nat :=
  let c0 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v41 : Index := Scalar.indexCast v39
  let c0_17 : Index := 0#32
  ![0, v41.toNat, 0]
def k0_off15 (i : grid0.Coords) (c0_i32_16 : BitVec 32) : Fin 4 → Nat :=
  let c0_18 : Index := 0#32
  let c0_19 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v43 : Index := Scalar.indexCast v39
  let c0_20 : Index := 0#32
  ![0, 0, v43.toNat, 0]
def k0_off16 (i : grid0.Coords) (c0_i32_16 : BitVec 32) : Fin 3 → Nat :=
  let c1 : Index := 1#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v50 : Index := Scalar.indexCast v39
  let c0_21 : Index := 0#32
  ![1, v50.toNat, 0]
def k0_off17 (i : grid0.Coords) (c0_i32_16 : BitVec 32) : Fin 4 → Nat :=
  let c1_22 : Index := 1#32
  let c0_23 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v52 : Index := Scalar.indexCast v39
  let c0_24 : Index := 0#32
  ![1, 0, v52.toNat, 0]
def k0_off18 (i : grid0.Coords) (c0_i32_16 : BitVec 32) : Fin 3 → Nat :=
  let c2 : Index := 2#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v59 : Index := Scalar.indexCast v39
  let c0_25 : Index := 0#32
  ![2, v59.toNat, 0]
def k0_off19 (i : grid0.Coords) (c0_i32_16 : BitVec 32) : Fin 4 → Nat :=
  let c2_26 : Index := 2#32
  let c0_27 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v61 : Index := Scalar.indexCast v39
  let c0_28 : Index := 0#32
  ![2, 0, v61.toNat, 0]
def k0_off20 (i : grid0.Coords) (c0_i32_16 : BitVec 32) : Fin 4 → Nat :=
  let c3 : Index := 3#32
  let c0_34 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v76 : Index := Scalar.indexCast v39
  let c0_35 : Index := 0#32
  ![3, 0, v76.toNat, 0]
def k0_off21 (i : grid0.Coords) (c0_i32_16 : BitVec 32) : Fin 2 → Nat :=
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v81 : Index := Scalar.indexCast v39
  let c0_37 : Index := 0#32
  ![v81.toNat, 0]
def k0_cond5 (i : grid0.Coords) : BitVec 1 :=
  let arg0 : BitVec 32 := BitVec.ofNat 32 (i 0).val
  let c4_i32_8 : BitVec 32 := 4#32
  let v22 : BitVec 1 := Scalar.cmpi .sge arg0 c4_i32_8
  let c10_i32 : BitVec 32 := 10#32
  let v23 : BitVec 1 := Scalar.cmpi .sle arg0 c10_i32
  let v24 : BitVec 1 := Scalar.andi v22 v23
  let arg1 : BitVec 32 := BitVec.ofNat 32 (i 1).val
  let c4_i32_9 : BitVec 32 := 4#32
  let v25 : BitVec 1 := Scalar.cmpi .slt arg1 c4_i32_9
  let v26 : BitVec 1 := Scalar.andi v24 v25
  let v27 : BitVec 32 := Scalar.extui v26
  let c0_i32_10 : BitVec 32 := 0#32
  let v28 : BitVec 1 := Scalar.cmpi .ne v27 c0_i32_10
  v28

def k0_off22 (i : grid0.Coords) (c1_i32_17 : BitVec 32) (c0_i32_16 : BitVec 32) : Fin 3 → Nat :=
  let arg0 : BitVec 32 := BitVec.ofNat 32 (i 0).val
  let v41 : BitVec 32 := Scalar.subi arg0 c1_i32_17
  let c0_i32_18 : BitVec 32 := 0#32
  let v42 : BitVec 32 := Scalar.maxsi v41 c0_i32_18
  let v44 : Index := Scalar.indexCast v42
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v45 : Index := Scalar.indexCast v39
  let c0 : Index := 0#32
  ![v44.toNat, v45.toNat, 0]
def k0_off23 (i : grid0.Coords) (c1_i32_17 : BitVec 32) (c0_i32_16 : BitVec 32) : Fin 4 → Nat :=
  let arg0 : BitVec 32 := BitVec.ofNat 32 (i 0).val
  let v41 : BitVec 32 := Scalar.subi arg0 c1_i32_17
  let c0_i32_18 : BitVec 32 := 0#32
  let v42 : BitVec 32 := Scalar.maxsi v41 c0_i32_18
  let c4_i32_19 : BitVec 32 := 4#32
  let v43 : BitVec 32 := Scalar.remsi v42 c4_i32_19
  let v47 : Index := Scalar.indexCast v43
  let c0_20 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v48 : Index := Scalar.indexCast v39
  let c0_21 : Index := 0#32
  ![v47.toNat, 0, v48.toNat, 0]
def k0_off24 (i : grid0.Coords) : Fin 3 → Nat :=
  let arg0 : BitVec 32 := BitVec.ofNat 32 (i 0).val
  let c1_i32_40 : BitVec 32 := 1#32
  let v98 : BitVec 32 := Scalar.subi arg0 c1_i32_40
  let v99 : Index := Scalar.indexCast v98
  let c0_41 : Index := 0#32
  let c0_42 : Index := 0#32
  ![v99.toNat, 0, 0]
def k0_off25 (i : grid0.Coords) (c0_i32_16 : BitVec 32) : Fin 4 → Nat :=
  let arg0 : BitVec 32 := BitVec.ofNat 32 (i 0).val
  let c4_i32_45 : BitVec 32 := 4#32
  let v107 : BitVec 32 := Scalar.remsi arg0 c4_i32_45
  let v108 : Index := Scalar.indexCast v107
  let c0_46 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v109 : Index := Scalar.indexCast v39
  let c0_47 : Index := 0#32
  ![v108.toNat, 0, v109.toNat, 0]
def k0_off26 (i : grid0.Coords) (c0_i32_16 : BitVec 32) : Fin 2 → Nat :=
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v114 : Index := Scalar.indexCast v39
  let c0_49 : Index := 0#32
  ![v114.toNat, 0]
def k0_cond7 (i : grid0.Coords) : BitVec 1 :=
  let arg0 : BitVec 32 := BitVec.ofNat 32 (i 0).val
  let c11_i32 : BitVec 32 := 11#32
  let v34 : BitVec 1 := Scalar.cmpi .eq arg0 c11_i32
  let arg1 : BitVec 32 := BitVec.ofNat 32 (i 1).val
  let c4_i32_14 : BitVec 32 := 4#32
  let v35 : BitVec 1 := Scalar.cmpi .slt arg1 c4_i32_14
  let v36 : BitVec 1 := Scalar.andi v34 v35
  let v37 : BitVec 32 := Scalar.extui v36
  let c0_i32_15 : BitVec 32 := 0#32
  let v38 : BitVec 1 := Scalar.cmpi .ne v37 c0_i32_15
  v38

def k0_off27 (i : grid0.Coords) (c0_i32_16 : BitVec 32) : Fin 3 → Nat :=
  let c7 : Index := 7#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v41 : Index := Scalar.indexCast v39
  let c0 : Index := 0#32
  ![7, v41.toNat, 0]
def k0_off28 (i : grid0.Coords) (c0_i32_16 : BitVec 32) : Fin 4 → Nat :=
  let c3 : Index := 3#32
  let c0_17 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v43 : Index := Scalar.indexCast v39
  let c0_18 : Index := 0#32
  ![3, 0, v43.toNat, 0]
def k0_off29 (i : grid0.Coords) (c0_i32_16 : BitVec 32) : Fin 3 → Nat :=
  let c8 : Index := 8#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v50 : Index := Scalar.indexCast v39
  let c0_19 : Index := 0#32
  ![8, v50.toNat, 0]
def k0_off30 (i : grid0.Coords) (c0_i32_16 : BitVec 32) : Fin 4 → Nat :=
  let c0_20 : Index := 0#32
  let c0_21 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v52 : Index := Scalar.indexCast v39
  let c0_22 : Index := 0#32
  ![0, 0, v52.toNat, 0]
def k0_off31 (i : grid0.Coords) (c0_i32_16 : BitVec 32) : Fin 3 → Nat :=
  let c9 : Index := 9#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v59 : Index := Scalar.indexCast v39
  let c0_23 : Index := 0#32
  ![9, v59.toNat, 0]
def k0_off32 (i : grid0.Coords) (c0_i32_16 : BitVec 32) : Fin 4 → Nat :=
  let c1 : Index := 1#32
  let c0_24 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v61 : Index := Scalar.indexCast v39
  let c0_25 : Index := 0#32
  ![1, 0, v61.toNat, 0]
def k0_off33 (i : grid0.Coords) (c0_i32_16 : BitVec 32) : Fin 3 → Nat :=
  let c10 : Index := 10#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v68 : Index := Scalar.indexCast v39
  let c0_26 : Index := 0#32
  ![10, v68.toNat, 0]
def k0_off34 (i : grid0.Coords) (c0_i32_16 : BitVec 32) : Fin 4 → Nat :=
  let c2 : Index := 2#32
  let c0_27 : Index := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let v70 : Index := Scalar.indexCast v39
  let c0_28 : Index := 0#32
  ![2, 0, v70.toNat, 0]
def k0_off35 (i : grid0.Coords) (c0_i32_16 : BitVec 32) : Fin 3 → Nat :=
  let c0_i32_32 : BitVec 32 := 0#32
  let arg1 : BitVec 32 := BitVec.ofNat 32 (i 1).val
  let c3_i32 : BitVec 32 := 3#32
  let v0 : BitVec 32 := Scalar.minsi arg1 c3_i32
  let c32_i32 : BitVec 32 := 32#32
  let v1 : BitVec 32 := Scalar.muli v0 c32_i32
  let v39 : BitVec 32 := Scalar.addi v1 c0_i32_16
  let c0_i32_33 : BitVec 32 := 0#32
  ![0, v39.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10x192x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelIdeal.lean ====
variable {F : FTy → Type} [FloatOps F] [Named F]
def κ : String → Option EReal := fun
  | "hw" => some ((196⁻¹ : ℝ) : EReal)
  | "mask" => some ⊥
  | _ => none
-- ==== ReferenceIdeal.lean ====
abbrev S128x192x14x14 : Shape := ⟨4, ![128, 192, 14, 14]⟩
abbrev S12x64 : Shape := ⟨2, ![12, 64]⟩
abbrev S12 : Shape := ⟨1, ![12]⟩
abbrev S12x192x192 : Shape := ⟨3, ![12, 192, 192]⟩
abbrev S192x64 : Shape := ⟨2, ![192, 64]⟩
abbrev S1x128x192x14x14 : Shape := ⟨5, ![1, 128, 192, 14, 14]⟩
abbrev S_ : Shape := ⟨0, ![]⟩
abbrev S11x128x192x14x14 : Shape := ⟨5, ![11, 128, 192, 14, 14]⟩
abbrev S12x128x192x14x14 : Shape := ⟨5, ![12, 128, 192, 14, 14]⟩
abbrev S128x1 : Shape := ⟨2, ![128, 1]⟩
abbrev S128x11 : Shape := ⟨2, ![128, 11]⟩
abbrev S128x12 : Shape := ⟨2, ![128, 12]⟩
abbrev S128 : Shape := ⟨1, ![128]⟩
abbrev S1x192x192 : Shape := ⟨3, ![1, 192, 192]⟩
abbrev S192x192 : Shape := ⟨2, ![192, 192]⟩
abbrev S192x128x14x14 : Shape := ⟨4, ![192, 128, 14, 14]⟩
abbrev S128x192 : Shape := ⟨2, ![128, 192]⟩
abbrev S128x64 : Shape := ⟨2, ![128, 64]⟩
abbrev S64x12 : Shape := ⟨2, ![64, 12]⟩
abbrev S1x12 : Shape := ⟨2, ![1, 12]⟩
abbrev S128x4 : Shape := ⟨2, ![128, 4]⟩
abbrev S128x4x1 : Shape := ⟨3, ![128, 4, 1]⟩
abbrev S1x1x12 : Shape := ⟨3, ![1, 1, 12]⟩
abbrev S128x4x12 : Shape := ⟨3, ![128, 4, 12]⟩
abbrev S12x128 : Shape := ⟨2, ![12, 128]⟩
abbrev S12x128x1x1x1 : Shape := ⟨5, ![12, 128, 1, 1, 1]⟩

abbrev nBuf : Space → Nat
  | .hbm => 256
  | .vmem => 0
  | .smem => 0
  | _ => 0

abbrev hbmTy0_0 (i : Nat) : BufTy := match i % 128 with
  | 0 => ⟨S128x192x14x14, .f32⟩
  | 1 => ⟨S12x64, .f32⟩
  | 2 => ⟨S12, .f32⟩
  | 3 => ⟨S12, .f32⟩
  | 4 => ⟨S12, .f32⟩
  | 5 => ⟨S12, .f32⟩
  | 6 => ⟨S12x192x192, .f32⟩
  | 7 => ⟨S192x64, .f32⟩
  | 8 => ⟨S12, .i32⟩
  | 9 => ⟨S1x128x192x14x14, .f32⟩
  | 10 => ⟨S_, .f32⟩
  | 11 => ⟨S11x128x192x14x14, .f32⟩
  | 12 => ⟨S12x128x192x14x14, .f32⟩
  | 13 => ⟨S_, .f32⟩
  | 14 => ⟨S128x1, .f32⟩
  | 15 => ⟨S_, .f32⟩
  | 16 => ⟨S128x11, .f32⟩
  | 17 => ⟨S128x12, .f32⟩
  | 18 => ⟨S_, .f32⟩
  | 19 => ⟨S128x12, .f32⟩
  | 20 => ⟨S_, .i32⟩
  | 21 => ⟨S_, .i32⟩
  | 22 => ⟨S12x192x192, .f32⟩
  | 23 => ⟨S192x64, .f32⟩
  | 24 => ⟨S12x64, .f32⟩
  | 25 => ⟨S12, .f32⟩
  | 26 => ⟨S12, .f32⟩
  | 27 => ⟨S12, .f32⟩
  | 28 => ⟨S12, .f32⟩
  | 29 => ⟨S12, .i32⟩
  | 30 => ⟨S_, .i32⟩
  | 31 => ⟨S_, .i32⟩
  | 32 => ⟨S12x128x192x14x14, .f32⟩
  | 33 => ⟨S128x12, .f32⟩
  | 34 => ⟨S128x12, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x128x192x14x14, .f32⟩
  | 78 => ⟨S128x192x14x14, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S128x1, .f32⟩
  | 94 => ⟨S128, .f32⟩
  | 95 => ⟨S_, .i32⟩
  | 96 => ⟨S_, .i1⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x192x192, .f32⟩
  | 120 => ⟨S192x192, .f32⟩
  | 121 => ⟨S192x128x14x14, .f32⟩
  | 122 => ⟨S128x192x14x14, .f32⟩
  | 123 => ⟨S_, .f32⟩
  | 124 => ⟨S128x192x14x14, .f32⟩
  | 125 => ⟨S128x192x14x14, .f32⟩
  | 126 => ⟨S128x192x14x14, .f32⟩
  | 127 => ⟨S_, .f32⟩
  | _ => ⟨S128x192x14x14, .f32⟩

abbrev hbmTy0_1 (i : Nat) : BufTy := match i % 128 with
  | 0 => ⟨S128x192, .f32⟩
  | 1 => ⟨S_, .f32⟩
  | 2 => ⟨S128x192, .f32⟩
  | 3 => ⟨S128x192, .f32⟩
  | 4 => ⟨S128x64, .f32⟩
  | 5 => ⟨S64x12, .f32⟩
  | 6 => ⟨S128x12, .f32⟩
  | 7 => ⟨S1x12, .f32⟩
  | 8 => ⟨S128x12, .f32⟩
  | 9 => ⟨S128x12, .f32⟩
  | 10 => ⟨S_, .f32⟩
  | 11 => ⟨S12, .f32⟩
  | 12 => ⟨S12, .f32⟩
  | 13 => ⟨S12, .f32⟩
  | 14 => ⟨S1x12, .f32⟩
  | 15 => ⟨S128x12, .f32⟩
  | 16 => ⟨S128x12, .f32⟩
  | 17 => ⟨S1x12, .f32⟩
  | 18 => ⟨S128x12, .f32⟩
  | 19 => ⟨S128x12, .f32⟩
  | 20 => ⟨S1x12, .f32⟩
  | 21 => ⟨S128x12, .f32⟩
  | 22 => ⟨S128x12, .f32⟩
  | 23 => ⟨S_, .i32⟩
  | 24 => ⟨S12, .i32⟩
  | 25 => ⟨S12, .i1⟩
  | 26 => ⟨S_, .i32⟩
  | 27 => ⟨S_, .i32⟩
  | 28 => ⟨S_, .i32⟩
  | 29 => ⟨S12, .i32⟩
  | 30 => ⟨S12, .i1⟩
  | 31 => ⟨S12, .i1⟩
  | 32 => ⟨S_, .f32⟩
  | 33 => ⟨S128x12, .i1⟩
  | 34 => ⟨S128x12, .f32⟩
  | 35 => ⟨S128x12, .f32⟩
  | 36 => ⟨S_, .f32⟩
  | 37 => ⟨S128, .f32⟩
  | 38 => ⟨S_, .f32⟩
  | 39 => ⟨S128, .f32⟩
  | 40 => ⟨S128, .f32⟩
  | 41 => ⟨S128x1, .f32⟩
  | 42 => ⟨S_, .f32⟩
  | 43 => ⟨S_, .f32⟩
  | 44 => ⟨S128x12, .i1⟩
  | 45 => ⟨S128x12, .f32⟩
  | 46 => ⟨S128x12, .f32⟩
  | 47 => ⟨S128x12, .f32⟩
  | 48 => ⟨S128x12, .f32⟩
  | 49 => ⟨S128x12, .f32⟩
  | 50 => ⟨S_, .f32⟩
  | 51 => ⟨S128x12, .i1⟩
  | 52 => ⟨S128x12, .f32⟩
  | 53 => ⟨S128x12, .f32⟩
  | 54 => ⟨S_, .f32⟩
  | 55 => ⟨S128, .f32⟩
  | 56 => ⟨S128x1, .f32⟩
  | 57 => ⟨S128x12, .f32⟩
  | 58 => ⟨S128x12, .f32⟩
  | 59 => ⟨S_, .i32⟩
  | 60 => ⟨S_, .f32⟩
  | 61 => ⟨S128x12, .i1⟩
  | 62 => ⟨S128x12, .f32⟩
  | 63 => ⟨S128x12, .f32⟩
  | 64 => ⟨S128x1, .f32⟩
  | 65 => ⟨S128x12, .f32⟩
  | 66 => ⟨S128x12, .f32⟩
  | 67 => ⟨S_, .i32⟩
  | 68 => ⟨S12, .i32⟩
  | 69 => ⟨S12, .i1⟩
  | 70 => ⟨S_, .f32⟩
  | 71 => ⟨S_, .f32⟩
  | 72 => ⟨S128x12, .i1⟩
  | 73 => ⟨S128x12, .f32⟩
  | 74 => ⟨S128x12, .f32⟩
  | 75 => ⟨S128x12, .f32⟩
  | 76 => ⟨S128x4, .f32⟩
  | 77 => ⟨S128x4, .i32⟩
  | 78 => ⟨S128x4x1, .i32⟩
  | 79 => ⟨S1x1x12, .i32⟩
  | 80 => ⟨S128x4x12, .i32⟩
  | 81 => ⟨S128x4x12, .i32⟩
  | 82 => ⟨S128x4x12, .i1⟩
  | 83 => ⟨S128x4x12, .f32⟩
  | 84 => ⟨S_, .f32⟩
  | 85 => ⟨S128x12, .f32⟩
  | 86 => ⟨S_, .f32⟩
  | 87 => ⟨S128x12, .f32⟩
  | 88 => ⟨S128x12, .i1⟩
  | 89 => ⟨S128x12, .f32⟩
  | 90 => ⟨S128x12, .f32⟩
  | 91 => ⟨S_, .f32⟩
  | 92 => ⟨S128x4, .f32⟩
  | 93 => ⟨S128x4, .i1⟩
  | 94 => ⟨S128x4, .f32⟩
  | 95 => ⟨S128x4, .f32⟩
  | 96 => ⟨S_, .f32⟩
  | 97 => ⟨S128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S128x12, .f32⟩
  | 105 => ⟨S128x1, .f32⟩
  | 106 => ⟨S128x12, .f32⟩
  | 107 => ⟨S128x12, .f32⟩
  | 108 => ⟨S128x12, .f32⟩
  | 109 => ⟨S12x128, .f32⟩
  | 110 => ⟨S12x128x1x1x1, .f32⟩
  | 111 => ⟨S1x128x192x14x14, .f32⟩
  | 112 => ⟨S12x128x192x14x14, .f32⟩
  | 113 => ⟨S12x128x192x14x14, .f32⟩
  | 114 => ⟨S12x128x192x14x14, .f32⟩
  | 115 => ⟨S12x128x192x14x14, .f32⟩
  | 116 => ⟨S128x1, .f32⟩
  | 117 => ⟨S128x12, .f32⟩
  | 118 => ⟨S128x12, .f32⟩
  | 119 => ⟨S128x12, .f32⟩
  | 120 => ⟨S12x128, .f32⟩
  | 121 => ⟨S12x128x1x1x1, .f32⟩
  | 122 => ⟨S12x128x192x14x14, .f32⟩
  | 123 => ⟨S12x128x192x14x14, .f32⟩
  | 124 => ⟨S_, .i32⟩
  | 125 => ⟨S_, .i32⟩
  | 126 => ⟨S1x128x192x14x14, .f32⟩
  | 127 => ⟨S128x192x14x14, .f32⟩
  | _ => ⟨S128x192x14x14, .f32⟩

abbrev hbmTy (i : Nat) : BufTy := match i / 128 with
  | 0 => hbmTy0_0 i
  | 1 => hbmTy0_1 i
  | _ => ⟨S128x192x14x14, .f32⟩

abbrev bufTy : (tb : Table) → Fin (tcTables nBuf tb) → BufTy
  | .hbm, ⟨i, _⟩ => hbmTy i
  | _, _ => ⟨S128x192x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_c : Ref sig .tc := ⟨.hbm, 20, rfl⟩
abbrev main_c_3 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev main_v8_6 : Ref sig .tc := ⟨.hbm, 28, rfl⟩
abbrev main_v8_7 : Ref sig .tc := ⟨.hbm, 29, rfl⟩
abbrev main_v8_8 : Ref sig .tc := ⟨.hbm, 30, rfl⟩
abbrev main_v8_9 : Ref sig .tc := ⟨.hbm, 31, rfl⟩
abbrev main_v8_10 : Ref sig .tc := ⟨.hbm, 32, rfl⟩
abbrev main_v8_11 : Ref sig .tc := ⟨.hbm, 33, rfl⟩
abbrev main_v8_12 : Ref sig .tc := ⟨.hbm, 34, rfl⟩
abbrev main_while0c_c_16 : Ref sig .tc := ⟨.hbm, 35, rfl⟩
abbrev main_while0c_v11 : Ref sig .tc := ⟨.hbm, 36, rfl⟩
abbrev main_while0b_c_16 : Ref sig .tc := ⟨.hbm, 37, rfl⟩
abbrev main_while0b_v11 : Ref sig .tc := ⟨.hbm, 38, rfl⟩
abbrev main_while0b_v12 : Ref sig .tc := ⟨.hbm, 39, rfl⟩
abbrev main_while0b_c_17 : Ref sig .tc := ⟨.hbm, 40, rfl⟩
abbrev main_while0b_v13 : Ref sig .tc := ⟨.hbm, 41, rfl⟩
abbrev main_while0b_c_18 : Ref sig .tc := ⟨.hbm, 42, rfl⟩
abbrev main_while0b_v14 : Ref sig .tc := ⟨.hbm, 43, rfl⟩
abbrev main_while0b_v15 : Ref sig .tc := ⟨.hbm, 44, rfl⟩
abbrev main_while0b_c_19 : Ref sig .tc := ⟨.hbm, 45, rfl⟩
abbrev main_while0b_c_20 : Ref sig .tc := ⟨.hbm, 46, rfl⟩
abbrev main_while0b_v16 : Ref sig .tc := ⟨.hbm, 47, rfl⟩
abbrev main_while0b_c_21 : Ref sig .tc := ⟨.hbm, 48, rfl⟩
abbrev main_while0b_c_22 : Ref sig .tc := ⟨.hbm, 49, rfl⟩
abbrev main_while0b_v17 : Ref sig .tc := ⟨.hbm, 50, rfl⟩
abbrev main_while0b_c_23 : Ref sig .tc := ⟨.hbm, 51, rfl⟩
abbrev main_while0b_v18 : Ref sig .tc := ⟨.hbm, 52, rfl⟩
abbrev main_while0b_c_24 : Ref sig .tc := ⟨.hbm, 53, rfl⟩
abbrev main_while0b_c_25 : Ref sig .tc := ⟨.hbm, 54, rfl⟩
abbrev main_while0b_v19 : Ref sig .tc := ⟨.hbm, 55, rfl⟩
abbrev main_while0b_c_26 : Ref sig .tc := ⟨.hbm, 56, rfl⟩
abbrev main_while0b_c_27 : Ref sig .tc := ⟨.hbm, 57, rfl⟩
abbrev main_while0b_v20 : Ref sig .tc := ⟨.hbm, 58, rfl⟩
abbrev main_while0b_c_28 : Ref sig .tc := ⟨.hbm, 59, rfl⟩
abbrev main_while0b_v21 : Ref sig .tc := ⟨.hbm, 60, rfl⟩
abbrev main_while0b_c_29 : Ref sig .tc := ⟨.hbm, 61, rfl⟩
abbrev main_while0b_c_30 : Ref sig .tc := ⟨.hbm, 62, rfl⟩
abbrev main_while0b_v22 : Ref sig .tc := ⟨.hbm, 63, rfl⟩
abbrev main_while0b_c_31 : Ref sig .tc := ⟨.hbm, 64, rfl⟩
abbrev main_while0b_c_32 : Ref sig .tc := ⟨.hbm, 65, rfl⟩
abbrev main_while0b_v23 : Ref sig .tc := ⟨.hbm, 66, rfl⟩
abbrev main_while0b_c_33 : Ref sig .tc := ⟨.hbm, 67, rfl⟩
abbrev main_while0b_v24 : Ref sig .tc := ⟨.hbm, 68, rfl⟩
abbrev main_while0b_c_34 : Ref sig .tc := ⟨.hbm, 69, rfl⟩
abbrev main_while0b_c_35 : Ref sig .tc := ⟨.hbm, 70, rfl⟩
abbrev main_while0b_v25 : Ref sig .tc := ⟨.hbm, 71, rfl⟩
abbrev main_while0b_c_36 : Ref sig .tc := ⟨.hbm, 72, rfl⟩
abbrev main_while0b_c_37 : Ref sig .tc := ⟨.hbm, 73, rfl⟩
abbrev main_while0b_v26 : Ref sig .tc := ⟨.hbm, 74, rfl⟩
abbrev main_while0b_c_38 : Ref sig .tc := ⟨.hbm, 75, rfl⟩
abbrev main_while0b_v27 : Ref sig .tc := ⟨.hbm, 76, rfl⟩
abbrev main_while0b_v28 : Ref sig .tc := ⟨.hbm, 77, rfl⟩
abbrev main_while0b_v29 : Ref sig .tc := ⟨.hbm, 78, rfl⟩
abbrev main_while0b_v30 : Ref sig .tc := ⟨.hbm, 79, rfl⟩
abbrev main_while0b_c_39 : Ref sig .tc := ⟨.hbm, 80, rfl⟩
abbrev main_while0b_c_40 : Ref sig .tc := ⟨.hbm, 81, rfl⟩
abbrev main_while0b_v31 : Ref sig .tc := ⟨.hbm, 82, rfl⟩
abbrev main_while0b_c_41 : Ref sig .tc := ⟨.hbm, 83, rfl⟩
abbrev main_while0b_c_42 : Ref sig .tc := ⟨.hbm, 84, rfl⟩
abbrev main_while0b_v32 : Ref sig .tc := ⟨.hbm, 85, rfl⟩
abbrev main_while0b_c_43 : Ref sig .tc := ⟨.hbm, 86, rfl⟩
abbrev main_while0b_v33 : Ref sig .tc := ⟨.hbm, 87, rfl⟩
abbrev main_while0b_c_44 : Ref sig .tc := ⟨.hbm, 88, rfl⟩
abbrev main_while0b_v34 : Ref sig .tc := ⟨.hbm, 89, rfl⟩
abbrev main_while0b_c_45 : Ref sig .tc := ⟨.hbm, 90, rfl⟩
abbrev main_while0b_v35 : Ref sig .tc := ⟨.hbm, 91, rfl⟩
abbrev main_while0b_v36 : Ref sig .tc := ⟨.hbm, 92, rfl⟩
abbrev main_while0b_v37 : Ref sig .tc := ⟨.hbm, 93, rfl⟩
abbrev main_while0b_v38 : Ref sig .tc := ⟨.hbm, 94, rfl⟩
abbrev main_while0b_c_46 : Ref sig .tc := ⟨.hbm, 95, rfl⟩
abbrev main_while0b_v39 : Ref sig .tc := ⟨.hbm, 96, rfl⟩
abbrev main_while0b_v40 : Ref sig .tc := ⟨.hbm, 97, rfl⟩
abbrev main_while0b_c_47 : Ref sig .tc := ⟨.hbm, 98, rfl⟩
abbrev main_while0b_v41 : Ref sig .tc := ⟨.hbm, 99, rfl⟩
abbrev main_while0b_c_48 : Ref sig .tc := ⟨.hbm, 100, rfl⟩
abbrev main_while0b_v42 : Ref sig .tc := ⟨.hbm, 101, rfl⟩
abbrev main_while0b_v43 : Ref sig .tc := ⟨.hbm, 102, rfl⟩
abbrev main_while0b_c_49 : Ref sig .tc := ⟨.hbm, 103, rfl⟩
abbrev main_while0b_c_50 : Ref sig .tc := ⟨.hbm, 104, rfl⟩
abbrev main_while0b_v44 : Ref sig .tc := ⟨.hbm, 105, rfl⟩
abbrev main_while0b_c_51 : Ref sig .tc := ⟨.hbm, 106, rfl⟩
abbrev main_while0b_c_52 : Ref sig .tc := ⟨.hbm, 107, rfl⟩
abbrev main_while0b_v45 : Ref sig .tc := ⟨.hbm, 108, rfl⟩
abbrev main_while0b_c_53 : Ref sig .tc := ⟨.hbm, 109, rfl⟩
abbrev main_while0b_v46 : Ref sig .tc := ⟨.hbm, 110, rfl⟩
abbrev main_while0b_c_54 : Ref sig .tc := ⟨.hbm, 111, rfl⟩
abbrev main_while0b_c_55 : Ref sig .tc := ⟨.hbm, 112, rfl⟩
abbrev main_while0b_v47 : Ref sig .tc := ⟨.hbm, 113, rfl⟩
abbrev main_while0b_c_56 : Ref sig .tc := ⟨.hbm, 114, rfl⟩
abbrev main_while0b_c_57 : Ref sig .tc := ⟨.hbm, 115, rfl⟩
abbrev main_while0b_v48 : Ref sig .tc := ⟨.hbm, 116, rfl⟩
abbrev main_while0b_c_58 : Ref sig .tc := ⟨.hbm, 117, rfl⟩
abbrev main_while0b_v49 : Ref sig .tc := ⟨.hbm, 118, rfl⟩
abbrev main_while0b_v50 : Ref sig .tc := ⟨.hbm, 119, rfl⟩
abbrev main_while0b_v51 : Ref sig .tc := ⟨.hbm, 120, rfl⟩
abbrev main_while0b_v52 : Ref sig .tc := ⟨.hbm, 121, rfl⟩
abbrev main_while0b_v53 : Ref sig .tc := ⟨.hbm, 122, rfl⟩
abbrev main_while0b_call0_cst : Ref sig .tc := ⟨.hbm, 123, rfl⟩
abbrev main_while0b_call0_v0 : Ref sig .tc := ⟨.hbm, 124, rfl⟩
abbrev main_while0b_v54 : Ref sig .tc := ⟨.hbm, 125, rfl⟩
abbrev main_while0b_v55 : Ref sig .tc := ⟨.hbm, 126, rfl⟩
abbrev main_while0b_cst_59 : Ref sig .tc := ⟨.hbm, 127, rfl⟩
abbrev main_while0b_v56 : Ref sig .tc := ⟨.hbm, 128, rfl⟩
abbrev main_while0b_cst_60 : Ref sig .tc := ⟨.hbm, 129, rfl⟩
abbrev main_while0b_v57 : Ref sig .tc := ⟨.hbm, 130, rfl⟩
abbrev main_while0b_v58 : Ref sig .tc := ⟨.hbm, 131, rfl⟩
abbrev main_while0b_v59 : Ref sig .tc := ⟨.hbm, 132, rfl⟩
abbrev main_while0b_v60 : Ref sig .tc := ⟨.hbm, 133, rfl⟩
abbrev main_while0b_v61 : Ref sig .tc := ⟨.hbm, 134, rfl⟩
abbrev main_while0b_v62 : Ref sig .tc := ⟨.hbm, 135, rfl⟩
abbrev main_while0b_v63 : Ref sig .tc := ⟨.hbm, 136, rfl⟩
abbrev main_while0b_v64 : Ref sig .tc := ⟨.hbm, 137, rfl⟩
abbrev main_while0b_cst_61 : Ref sig .tc := ⟨.hbm, 138, rfl⟩
abbrev main_while0b_v65 : Ref sig .tc := ⟨.hbm, 139, rfl⟩
abbrev main_while0b_v66 : Ref sig .tc := ⟨.hbm, 140, rfl⟩
abbrev main_while0b_v67 : Ref sig .tc := ⟨.hbm, 141, rfl⟩
abbrev main_while0b_v68 : Ref sig .tc := ⟨.hbm, 142, rfl⟩
abbrev main_while0b_v69 : Ref sig .tc := ⟨.hbm, 143, rfl⟩
abbrev main_while0b_v70 : Ref sig .tc := ⟨.hbm, 144, rfl⟩
abbrev main_while0b_v71 : Ref sig .tc := ⟨.hbm, 145, rfl⟩
abbrev main_while0b_v72 : Ref sig .tc := ⟨.hbm, 146, rfl⟩
abbrev main_while0b_v73 : Ref sig .tc := ⟨.hbm, 147, rfl⟩
abbrev main_while0b_v74 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_c_62 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_cst_63 : Ref sig .tc := ⟨.hbm, 160, rfl⟩
abbrev main_while0b_call2_v0 : Ref sig .tc := ⟨.hbm, 161, rfl⟩
abbrev main_while0b_call2_v1 : Ref sig .tc := ⟨.hbm, 162, rfl⟩
abbrev main_while0b_v85 : Ref sig .tc := ⟨.hbm, 163, rfl⟩
abbrev main_while0b_cst_64 : Ref sig .tc := ⟨.hbm, 164, rfl⟩
abbrev main_while0b_v86 : Ref sig .tc := ⟨.hbm, 165, rfl⟩
abbrev main_while0b_cst_65 : Ref sig .tc := ⟨.hbm, 166, rfl⟩
abbrev main_while0b_v87 : Ref sig .tc := ⟨.hbm, 167, rfl⟩
abbrev main_while0b_v88 : Ref sig .tc := ⟨.hbm, 168, rfl⟩
abbrev main_while0b_v89 : Ref sig .tc := ⟨.hbm, 169, rfl⟩
abbrev main_while0b_cst_66 : Ref sig .tc := ⟨.hbm, 170, rfl⟩
abbrev main_while0b_call3_v0 : Ref sig .tc := ⟨.hbm, 171, rfl⟩
abbrev main_while0b_call3_v1 : Ref sig .tc := ⟨.hbm, 172, rfl⟩
abbrev main_while0b_call3_v2 : Ref sig .tc := ⟨.hbm, 173, rfl⟩
abbrev main_while0b_v90 : Ref sig .tc := ⟨.hbm, 174, rfl⟩
abbrev main_while0b_v91 : Ref sig .tc := ⟨.hbm, 175, rfl⟩
abbrev main_while0b_v92 : Ref sig .tc := ⟨.hbm, 176, rfl⟩
abbrev main_while0b_v93 : Ref sig .tc := ⟨.hbm, 177, rfl⟩
abbrev main_while0b_cst_67 : Ref sig .tc := ⟨.hbm, 178, rfl⟩
abbrev main_while0b_call4_v0 : Ref sig .tc := ⟨.hbm, 179, rfl⟩
abbrev main_while0b_call4_v1 : Ref sig .tc := ⟨.hbm, 180, rfl⟩
abbrev main_while0b_v94 : Ref sig .tc := ⟨.hbm, 181, rfl⟩
abbrev main_while0b_cst_68 : Ref sig .tc := ⟨.hbm, 182, rfl⟩
abbrev main_while0b_v95 : Ref sig .tc := ⟨.hbm, 183, rfl⟩
abbrev main_while0b_v96 : Ref sig .tc := ⟨.hbm, 184, rfl⟩
abbrev main_while0b_v97 : Ref sig .tc := ⟨.hbm, 185, rfl⟩
abbrev main_while0b_v98 : Ref sig .tc := ⟨.hbm, 186, rfl⟩
abbrev main_while0b_c_69 : Ref sig .tc := ⟨.hbm, 187, rfl⟩
abbrev main_while0b_call5_v0 : Ref sig .tc := ⟨.hbm, 188, rfl⟩
abbrev main_while0b_call5_v1 : Ref sig .tc := ⟨.hbm, 189, rfl⟩
abbrev main_while0b_call5_v2 : Ref sig .tc := ⟨.hbm, 190, rfl⟩
abbrev main_while0b_v99 : Ref sig .tc := ⟨.hbm, 191, rfl⟩
abbrev main_while0b_v100 : Ref sig .tc := ⟨.hbm, 192, rfl⟩
abbrev main_while0b_v101 : Ref sig .tc := ⟨.hbm, 193, rfl⟩
abbrev main_while0b_v102 : Ref sig .tc := ⟨.hbm, 194, rfl⟩
abbrev main_while0b_v103 : Ref sig .tc := ⟨.hbm, 195, rfl⟩
abbrev main_while0b_v104 : Ref sig .tc := ⟨.hbm, 196, rfl⟩
abbrev main_while0b_v105 : Ref sig .tc := ⟨.hbm, 197, rfl⟩
abbrev main_while0b_cst_70 : Ref sig .tc := ⟨.hbm, 198, rfl⟩
abbrev main_while0b_call6_v0 : Ref sig .tc := ⟨.hbm, 199, rfl⟩
abbrev main_while0b_call6_v1 : Ref sig .tc := ⟨.hbm, 200, rfl⟩
abbrev main_while0b_call6_v2 : Ref sig .tc := ⟨.hbm, 201, rfl⟩
abbrev main_while0b_v106 : Ref sig .tc := ⟨.hbm, 202, rfl⟩
abbrev main_while0b_v107 : Ref sig .tc := ⟨.hbm, 203, rfl⟩
abbrev main_while0b_values : Ref sig .tc := ⟨.hbm, 204, rfl⟩
abbrev main_while0b_indices : Ref sig .tc := ⟨.hbm, 205, rfl⟩
abbrev main_while0b_call7_v0 : Ref sig .tc := ⟨.hbm, 206, rfl⟩
abbrev main_while0b_call7_v1 : Ref sig .tc := ⟨.hbm, 207, rfl⟩
abbrev main_while0b_call7_v2 : Ref sig .tc := ⟨.hbm, 208, rfl⟩
abbrev main_while0b_call7_v3 : Ref sig .tc := ⟨.hbm, 209, rfl⟩
abbrev main_while0b_call7_v4 : Ref sig .tc := ⟨.hbm, 210, rfl⟩
abbrev main_while0b_v108 : Ref sig .tc := ⟨.hbm, 211, rfl⟩
abbrev main_while0b_cst_71 : Ref sig .tc := ⟨.hbm, 212, rfl⟩
abbrev main_while0b_v109 : Ref sig .tc := ⟨.hbm, 213, rfl⟩
abbrev main_while0b_cst_72 : Ref sig .tc := ⟨.hbm, 214, rfl⟩
abbrev main_while0b_v110 : Ref sig .tc := ⟨.hbm, 215, rfl⟩
abbrev main_while0b_v111 : Ref sig .tc := ⟨.hbm, 216, rfl⟩
abbrev main_while0b_v112 : Ref sig .tc := ⟨.hbm, 217, rfl⟩
abbrev main_while0b_v113 : Ref sig .tc := ⟨.hbm, 218, rfl⟩
abbrev main_while0b_cst_73 : Ref sig .tc := ⟨.hbm, 219, rfl⟩
abbrev main_while0b_v114 : Ref sig .tc := ⟨.hbm, 220, rfl⟩
abbrev main_while0b_v115 : Ref sig .tc := ⟨.hbm, 221, rfl⟩
abbrev main_while0b_v116 : Ref sig .tc := ⟨.hbm, 222, rfl⟩
abbrev main_while0b_v117 : Ref sig .tc := ⟨.hbm, 223, rfl⟩
abbrev main_while0b_cst_74 : Ref sig .tc := ⟨.hbm, 224, rfl⟩
abbrev main_while0b_v118 : Ref sig .tc := ⟨.hbm, 225, rfl⟩
abbrev main_while0b_cst_75 : Ref sig .tc := ⟨.hbm, 226, rfl⟩
abbrev main_while0b_v119 : Ref sig .tc := ⟨.hbm, 227, rfl⟩
abbrev main_while0b_v120 : Ref sig .tc := ⟨.hbm, 228, rfl⟩
abbrev main_while0b_cst_76 : Ref sig .tc := ⟨.hbm, 229, rfl⟩
abbrev main_while0b_v121 : Ref sig .tc := ⟨.hbm, 230, rfl⟩
abbrev main_while0b_v122 : Ref sig .tc := ⟨.hbm, 231, rfl⟩
abbrev main_while0b_v123 : Ref sig .tc := ⟨.hbm, 232, rfl⟩
abbrev main_while0b_v124 : Ref sig .tc := ⟨.hbm, 233, rfl⟩
abbrev main_while0b_v125 : Ref sig .tc := ⟨.hbm, 234, rfl⟩
abbrev main_while0b_v126 : Ref sig .tc := ⟨.hbm, 235, rfl⟩
abbrev main_while0b_v127 : Ref sig .tc := ⟨.hbm, 236, rfl⟩
abbrev main_while0b_v128 : Ref sig .tc := ⟨.hbm, 237, rfl⟩
abbrev main_while0b_v129 : Ref sig .tc := ⟨.hbm, 238, rfl⟩
abbrev main_while0b_v130 : Ref sig .tc := ⟨.hbm, 239, rfl⟩
abbrev main_while0b_v131 : Ref sig .tc := ⟨.hbm, 240, rfl⟩
abbrev main_while0b_v132 : Ref sig .tc := ⟨.hbm, 241, rfl⟩
abbrev main_while0b_v133 : Ref sig .tc := ⟨.hbm, 242, rfl⟩
abbrev main_while0b_v134 : Ref sig .tc := ⟨.hbm, 243, rfl⟩
abbrev main_while0b_v135 : Ref sig .tc := ⟨.hbm, 244, rfl⟩
abbrev main_while0b_v136 : Ref sig .tc := ⟨.hbm, 245, rfl⟩
abbrev main_while0b_v137 : Ref sig .tc := ⟨.hbm, 246, rfl⟩
abbrev main_while0b_v138 : Ref sig .tc := ⟨.hbm, 247, rfl⟩
abbrev main_while0b_v139 : Ref sig .tc := ⟨.hbm, 248, rfl⟩
abbrev main_while0b_v140 : Ref sig .tc := ⟨.hbm, 249, rfl⟩
abbrev main_while0b_v141 : Ref sig .tc := ⟨.hbm, 250, rfl⟩
abbrev main_while0b_v142 : Ref sig .tc := ⟨.hbm, 251, rfl⟩
abbrev main_while0b_c_77 : Ref sig .tc := ⟨.hbm, 252, rfl⟩
abbrev main_while0b_v143 : Ref sig .tc := ⟨.hbm, 253, rfl⟩
abbrev main_v9 : Ref sig .tc := ⟨.hbm, 254, rfl⟩
abbrev main_v10 : Ref sig .tc := ⟨.hbm, 255, rfl⟩

abbrev nD : Nat := 1
abbrev τ : Topo := Topo.v7x

variable {F : FTy → Type} [FloatOps F]

abbrev main_while0_count : Scf.Loop 32 := ⟨0#32, 11#32, 1#32⟩
-- ==== Proof.Hand.KIFrame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Pipeline.FrameSuffix
public import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev xM : Memref sig .tc .hbm S196x128x192 .f32 := Memref.whole main_v1
abbrev outM : Memref sig .tc .hbm S196x128x192 .f32 := Memref.whole main_v9
abbrev ringM : Memref sig .tc .vmem S4x196x128x192 .bf16 := Memref.whole cc0_scratch0
abbrev adM : Memref sig .tc .vmem S128x12 .f32 := Memref.whole cc0_scratch1
abbrev cfM : Memref sig .tc .vmem S12x128x12 .f32 := Memref.whole cc0_scratch2
abbrev cnM : Memref sig .tc .vmem S12x128x1 .f32 := Memref.whole cc0_scratch3
abbrev psM : Memref sig .tc .vmem S128x192 .f32 := Memref.whole cc0_scratch4
abbrev stM : Memref sig .tc .vmem S196x16x192 .f32 := Memref.whole cc0_scratch5

/-! ## The ring's offsets in closed form -/

theorem off22_eq : ∀ i : grid0.Coords, ∀ (o : Fin 4) (r : Fin 2), k0_off22 i (BitVec.ofNat 32 (o.val + 1)) (BitVec.ofNat 32 (16 * r.val))
    = ![(i 0).val - (o.val + 1), 32 * (min (i 1).val 3) + 16 * r.val, 0] := by decide +kernel
theorem off23_eq : ∀ i : grid0.Coords, ∀ (o : Fin 4) (r : Fin 2), k0_off23 i (BitVec.ofNat 32 (o.val + 1)) (BitVec.ofNat 32 (16 * r.val))
    = ![((i 0).val - (o.val + 1)) % 4, 0, 32 * (min (i 1).val 3) + 16 * r.val, 0] := by decide +kernel
theorem off25_eq : ∀ i : grid0.Coords, ∀ (r : Fin 2), k0_off25 i (BitVec.ofNat 32 (16 * r.val))
    = ![(i 0).val % 4, 0, 32 * (min (i 1).val 3) + 16 * r.val, 0] := by decide +kernel
instance off22_1_0 (i : grid0.Coords) : ClosedOff (k0_off22 i 1#32 0#32) := ⟨![(i 0).val - 1, 32 * (min (i 1).val 3) + 16 * 0, 0], off22_eq i 0 0⟩
instance off23_1_0 (i : grid0.Coords) : ClosedOff (k0_off23 i 1#32 0#32) := ⟨![((i 0).val - 1) % 4, 0, 32 * (min (i 1).val 3) + 16 * 0, 0], off23_eq i 0 0⟩
instance off22_1_1 (i : grid0.Coords) : ClosedOff (k0_off22 i 1#32 16#32) := ⟨![(i 0).val - 1, 32 * (min (i 1).val 3) + 16 * 1, 0], off22_eq i 0 1⟩
instance off23_1_1 (i : grid0.Coords) : ClosedOff (k0_off23 i 1#32 16#32) := ⟨![((i 0).val - 1) % 4, 0, 32 * (min (i 1).val 3) + 16 * 1, 0], off23_eq i 0 1⟩
instance off22_2_0 (i : grid0.Coords) : ClosedOff (k0_off22 i 2#32 0#32) := ⟨![(i 0).val - 2, 32 * (min (i 1).val 3) + 16 * 0, 0], off22_eq i 1 0⟩
instance off23_2_0 (i : grid0.Coords) : ClosedOff (k0_off23 i 2#32 0#32) := ⟨![((i 0).val - 2) % 4, 0, 32 * (min (i 1).val 3) + 16 * 0, 0], off23_eq i 1 0⟩
instance off22_2_1 (i : grid0.Coords) : ClosedOff (k0_off22 i 2#32 16#32) := ⟨![(i 0).val - 2, 32 * (min (i 1).val 3) + 16 * 1, 0], off22_eq i 1 1⟩
instance off23_2_1 (i : grid0.Coords) : ClosedOff (k0_off23 i 2#32 16#32) := ⟨![((i 0).val - 2) % 4, 0, 32 * (min (i 1).val 3) + 16 * 1, 0], off23_eq i 1 1⟩
instance off22_3_0 (i : grid0.Coords) : ClosedOff (k0_off22 i 3#32 0#32) := ⟨![(i 0).val - 3, 32 * (min (i 1).val 3) + 16 * 0, 0], off22_eq i 2 0⟩
instance off23_3_0 (i : grid0.Coords) : ClosedOff (k0_off23 i 3#32 0#32) := ⟨![((i 0).val - 3) % 4, 0, 32 * (min (i 1).val 3) + 16 * 0, 0], off23_eq i 2 0⟩
instance off22_3_1 (i : grid0.Coords) : ClosedOff (k0_off22 i 3#32 16#32) := ⟨![(i 0).val - 3, 32 * (min (i 1).val 3) + 16 * 1, 0], off22_eq i 2 1⟩
instance off23_3_1 (i : grid0.Coords) : ClosedOff (k0_off23 i 3#32 16#32) := ⟨![((i 0).val - 3) % 4, 0, 32 * (min (i 1).val 3) + 16 * 1, 0], off23_eq i 2 1⟩
instance off22_4_0 (i : grid0.Coords) : ClosedOff (k0_off22 i 4#32 0#32) := ⟨![(i 0).val - 4, 32 * (min (i 1).val 3) + 16 * 0, 0], off22_eq i 3 0⟩
instance off23_4_0 (i : grid0.Coords) : ClosedOff (k0_off23 i 4#32 0#32) := ⟨![((i 0).val - 4) % 4, 0, 32 * (min (i 1).val 3) + 16 * 0, 0], off23_eq i 3 0⟩
instance off22_4_1 (i : grid0.Coords) : ClosedOff (k0_off22 i 4#32 16#32) := ⟨![(i 0).val - 4, 32 * (min (i 1).val 3) + 16 * 1, 0], off22_eq i 3 1⟩
instance off23_4_1 (i : grid0.Coords) : ClosedOff (k0_off23 i 4#32 16#32) := ⟨![((i 0).val - 4) % 4, 0, 32 * (min (i 1).val 3) + 16 * 1, 0], off23_eq i 3 1⟩
instance off25_0 (i : grid0.Coords) : ClosedOff (k0_off25 i 0#32) := ⟨![(i 0).val % 4, 0, 32 * (min (i 1).val 3) + 16 * 0, 0], off25_eq i 0⟩
instance off25_1 (i : grid0.Coords) : ClosedOff (k0_off25 i 16#32) := ⟨![(i 0).val % 4, 0, 32 * (min (i 1).val 3) + 16 * 1, 0], off25_eq i 1⟩

/-! ## The body at any point -/

/-- From its seven staged inputs, the node feature left in HBM, and the result and the scratch buffers at any contents, the
    body runs at every grid point to the same: the inputs as they were, everything it writes at some contents, its one
    transfer cell back at zero. -/
theorem body_run (c : Dev nD) (i : grid0.Coords)
    (M0 : Memref sig .tc .vmem S10x192x192 .f32) (w0 : M0.IsWhole) (M1 : Memref sig .tc .vmem S192x64 .f32) (w1 : M1.IsWhole) (M2 : Memref sig .tc .vmem S64x12 .f32) (w2 : M2.IsWhole) (M3 : Memref sig .tc .vmem S1x12 .f32) (w3 : M3.IsWhole) (M4 : Memref sig .tc .vmem S1x12 .f32) (w4 : M4.IsWhole) (M5 : Memref sig .tc .vmem S1x12 .f32) (w5 : M5.IsWhole) (M6 : Memref sig .tc .vmem S1x12 .f32) (w6 : M6.IsWhole)
    (d0 : S10x192x192.Idx → Elt F .f32) (d1 : S192x64.Idx → Elt F .f32) (d2 : S64x12.Idx → Elt F .f32) (d3 : S1x12.Idx → Elt F .f32) (d4 : S1x12.Idx → Elt F .f32) (d5 : S1x12.Idx → Elt F .f32) (d6 : S1x12.Idx → Elt F .f32)
    (fx : Bf (F := F) c xM) (W : Waits sig Unit) (Q : PUnit → sProp 𝕄) :
    iprop(owns (c : Thread nD τ) M0 fullShare d0 ∗ owns (c : Thread nD τ) M1 fullShare d1 ∗ owns (c : Thread nD τ) M2 fullShare d2 ∗ owns (c : Thread nD τ) M3 fullShare d3 ∗ owns (c : Thread nD τ) M4 fullShare d4 ∗ owns (c : Thread nD τ) M5 fullShare d5 ∗ owns (c : Thread nD τ) M6 fullShare d6
      ∗ (∃ f, pt c ringM f) ∗ (∃ f, pt c adM f) ∗ (∃ f, pt c cfM f) ∗ (∃ f, pt c cnM f) ∗ (∃ f, pt c psM f) ∗ (∃ f, pt c stM f)
      ∗ semVal ((c : Thread nD τ), SemLoc.dma 7) 0 ∗ pt c xM fx ∗ (∃ f, pt c outM f) ∗ owes (c : Thread nD τ) 0 W
      ∗ (iprop(owns (c : Thread nD τ) M0 fullShare d0 ∗ owns (c : Thread nD τ) M1 fullShare d1 ∗ owns (c : Thread nD τ) M2 fullShare d2 ∗ owns (c : Thread nD τ) M3 fullShare d3 ∗ owns (c : Thread nD τ) M4 fullShare d4 ∗ owns (c : Thread nD τ) M5 fullShare d5 ∗ owns (c : Thread nD τ) M6 fullShare d6
            ∗ (∃ f, pt c ringM f) ∗ (∃ f, pt c adM f) ∗ (∃ f, pt c cfM f) ∗ (∃ f, pt c cnM f) ∗ (∃ f, pt c psM f) ∗ (∃ f, pt c stM f)
            ∗ semVal ((c : Thread nD τ), SemLoc.dma 7) 0 ∗ pt c xM fx ∗ (∃ f, pt c outM f) ∗ ∃ W', owes (c : Thread nD τ) 0 W') -∗ Q ⟨⟩))
    ⊢ wp frame (wpE (defs₀ (F := F)) Variants.none c none) Set.univ
        (cc0__mega_body i xM (Memref.isWhole_whole _) M0 w0 M1 w1 M2 w2 M3 w3 M4 w4 M5 w5 M6 w6 outM (Memref.isWhole_whole _)
          ringM (Memref.isWhole_whole _) adM (Memref.isWhole_whole _) cfM (Memref.isWhole_whole _) cnM (Memref.isWhole_whole _)
          psM (Memref.isWhole_whole _) stM (Memref.isWhole_whole _) cc0_scratch6) Q := by
  simp only [cc0__mega_body_eq_skeleton]; unfold cc0__mega_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%g0, G0⟩, ⟨%g1, G1⟩, ⟨%g2, G2⟩, ⟨%g3, G3⟩, ⟨%g4, G4⟩, ⟨%g5, G5⟩, Hd, Hx, ⟨%fo, Ho⟩, HO, Hk⟩
  sl_exec
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [Hd]; · iexact Hd
  isplitl [Hx]; · iexact Hx
  isplitl [Ho]; · iexists _; iexact Ho
  iexists _; iexact HO

/-! ## The launch's operands -/

variable (m : (ℓ : Loc nD τ sig) → Buf (Elt F) ℓ) (ρ : Dev nD → PrngReg)

/-- The body's own transfer cell. -/
abbrev osem0 : Fin 1 → SemLoc sig := fun _ => SemLoc.dma 7
theorem ownSemFacts0 : Pipeline.OwnSemFacts spec0 osem0 := by decide
/-- The buffers the body reads, and the one it writes, by its own transfers. -/
def H0 : Finset (Ref sig .tc) := {main_v1}
def R0 : Finset (Ref sig .tc) := {main_v9}
/-- What the host lines after the region write. -/
def T0 : Finset (Ref sig .tc) := {main_v10, main_v11}
theorem H0_sub : H0 ⊆ Pipeline.restRefs sig spec0 := by decide
theorem R0_sub : R0 ⊆ Pipeline.restRefs sig spec0 \ H0 := by decide

theorem Phi_eq (c : Dev nD) :
    (Pipeline.ΦDR osem0 spec0 H0 R0 (V m) c : sProp 𝕄)
      = iprop(iprop((∃ f, pt c ringM f) ∗ (∃ f, pt c adM f) ∗ (∃ f, pt c cfM f) ∗ (∃ f, pt c cnM f) ∗ (∃ f, pt c psM f) ∗ (∃ f, pt c stM f)) ∗ (∃ r, prngReg c r) ∗ semVal ((c : Thread nD τ), SemLoc.dma 7) 0 ∗ pt c xM (V m c main_v1) ∗ (∃ f, pt c outM f)) := by
  rw [Pipeline.ΦDR_eq, scopedRest0_eq, Pipeline.ownSems0_eq_of_list c osem0 [0] (by decide) (by decide)]
  unfold Pipeline.owned
  rw [BI.bigSep_eq_bigSepL_of_eq [main_v1] (by decide) (by decide), BI.bigSep_eq_bigSepL_of_eq [main_v9] (by decide) (by decide)]
  simp only [BI.bigSepL, owns_whole]

/-- The proof data of the one pipeline on core `c`: every staged input keeps its block, the invariant names no contents of
    what the body writes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦDR osem0 spec0 H0 R0 (V m) c
  q _ := fullShare
  owed _ := 0

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem after0_0 (c : Dev nD) (t : Fin cfg0.N) : (dats m 0 c).after 0 t = iblk m c 0 t := rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem after0_1 (c : Dev nD) (t : Fin cfg0.N) : (dats m 0 c).after 1 t = iblk m c 1 t := rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem after0_2 (c : Dev nD) (t : Fin cfg0.N) : (dats m 0 c).after 2 t = iblk m c 2 t := rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem after0_3 (c : Dev nD) (t : Fin cfg0.N) : (dats m 0 c).after 3 t = iblk m c 3 t := rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem after0_4 (c : Dev nD) (t : Fin cfg0.N) : (dats m 0 c).after 4 t = iblk m c 4 t := rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem after0_5 (c : Dev nD) (t : Fin cfg0.N) : (dats m 0 c).after 5 t = iblk m c 5 t := rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem after0_6 (c : Dev nD) (t : Fin cfg0.N) : (dats m 0 c).after 6 t = iblk m c 6 t := rfl

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))) := by
  simp only [before0_0, before0_1, before0_2, before0_3, before0_4, before0_5, before0_6, after0_0, after0_1, after0_2, after0_3, after0_4, after0_5, after0_6]
  rw [show (dats m 0 c).Φ t.succ = (dats m 0 c).Φ t.castSucc from rfl]
  rw [show (dats m 0 c).Φ t.castSucc = Pipeline.ΦDR osem0 spec0 H0 R0 (V m) c from rfl, Phi_eq]
  unfold Dat.owesAt Pipeline.owesWithin
  rw [show (dats m 0 c).owed t.castSucc = 0 from rfl, show (dats m 0 c).owed t.succ = 0 from rfl]
  unfold bodyAt0
  iintro ⟨⟨⟨G0, G1, G2, G3, G4, G5⟩, Hg, Hd, Hx, Ho⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body_run c _ _ _ _ _ _ _ _ _ _ _ _ _ _ _ (iblk m c 0 t) (iblk m c 1 t) (iblk m c 2 t) (iblk m c 3 t) (iblk m c 4 t) (iblk m c 5 t) (iblk m c 6 t) (V m c main_v1) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G0]; · iexact G0
  isplitl [G1]; · iexact G1
  isplitl [G2]; · iexact G2
  isplitl [G3]; · iexact G3
  isplitl [G4]; · iexact G4
  isplitl [G5]; · iexact G5
  isplitl [Hd]; · iexact Hd
  isplitl [Hx]; · iexact Hx
  isplitl [Ho]; · iexact Ho
  isplitl [HW]; · iexact HW
  iintro ⟨H0, H1, H2, H3, H4, H5, H6, G0, G1, G2, G3, G4, G5, Hd, Hx, Ho, ⟨%W', HW⟩⟩
  isplitl [G0 G1 G2 G3 G4 G5 Hg Hd Hx Ho]
  · isplitl [G0 G1 G2 G3 G4 G5]
    · isplitl [G0]; · iexact G0
      isplitl [G1]; · iexact G1
      isplitl [G2]; · iexact G2
      isplitl [G3]; · iexact G3
      isplitl [G4]; · iexact G4
      iexact G5
    isplitl [Hg]; · iexact Hg
    isplitl [Hd]; · iexact Hd
    isplitl [Hx]; · iexact Hx
    iexact Ho
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_T : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl <;> simp only [StableHlo.unary_writes, StableHlo.reshape_writes, Finset.mem_singleton] at hb <;>
    rw [Proc.devRef_injective .tc hb] <;> decide

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fun _ _ => rfl) (hin := fun _ => .rfl) (hout := fun _ => .rfl)

/-- The frame: every argument array ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).1 1).trans (((dats m 0 c).arrAt_in 1 rfl _).trans (V_main_arg7 m c))⟩, h.2⟩) (run_main m ρ)

end Cert.KernelIdeal.Hand

end
-- ==== Proof.Hand.Spec.lean ====
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem

/-! ## What the kernel computes, as a recursion over the nodes -/

/-- The launch's arrays as the region meets them: the first node's feature, the nodes' weights, the two projections and the
    four rows of the normalisation. -/
structure Inp where
  x : FVec Ideal S196x128x192 .f32
  wt : FVec Ideal S10x192x192 .f32
  P : FVec Ideal S192x64 .f32
  E : FVec Ideal S64x12 .f32
  mean : FVec Ideal S1x12 .f32
  var : FVec Ideal S1x12 .f32
  gamma : FVec Ideal S1x12 .f32
  beta : FVec Ideal S1x12 .f32

/-- The state between two nodes: the features so far, the attention still to hand out, the coefficients of each earlier
    node in each later one, and the coefficients of the node that comes next. -/
structure KS where
  f : ℕ → Fin 196 → Fin 128 → Fin 192 → EReal
  ad : FVec Ideal S128x12 .f32
  cf : FVec Ideal S12x128x12 .f32
  cn : FVec Ideal S12x128x1 .f32

variable (I : Inp)

/-- The combination of the up to four nodes before node `n`, most recent first. -/
def agg (n : ℕ) (s : KS) (p : Fin 196) (b : Fin 128) (d : Fin 192) : EReal :=
  ∑ o : Fin 4, if h : o.val + 1 ≤ n ∧ n ≤ 11 then s.cn (ix3 (⟨n - (o.val + 1), by omega⟩ : Fin 12) b 0) * s.f (n - (o.val + 1)) p b d else 0

/-- Node `n`'s feature: the input at node 0, else the rectified image of the combination. -/
def feat (n : ℕ) (s : KS) (p : Fin 196) (b : Fin 128) (c : Fin 192) : EReal :=
  if n = 0 then I.x (ix3 p b c) else
    if h : n - 1 < 10 then max (∑ d : Fin 192, agg n s p b d * I.wt (ix3 (⟨n - 1, h⟩ : Fin 10) d c)) 0 else 0

/-- A feature summed over the pixels. -/
def psum (n : ℕ) (s : KS) : FVec Ideal S128x192 .f32 := fun j => ∑ p : Fin 196, feat I n s p (j 0) (j 1)

/-- The lane numbers. -/
abbrev lanes : IVec S128x12 32 := iota .tc S128x12 32 [1] iota_S128x12_d1_w32
/-- The normalised scores of node `n`, masked to its window. -/
def score (n : ℕ) (ps : FVec Ideal S128x192 .f32) : FVec Ideal S128x12 .f32 :=
  k0_pay34 (F := Ideal) (BitVec.ofNat 32 n) ps I.P I.E I.mean I.var I.gamma I.beta
/-- The attention node `n` hands to each later node. -/
def sent (n : ℕ) (ps : FVec Ideal S128x192 .f32) (ad : FVec Ideal S128x12 .f32) : FVec Ideal S128x12 .f32 :=
  k0_pay36 (F := Ideal) (BitVec.ofNat 32 n) lanes (k0_pay33 (BitVec.ofNat 32 n)) (score I n ps) ad
/-- The attention outstanding once node `n` has handed its own out. -/
def ad1 (n : ℕ) (ps : FVec Ideal S128x192 .f32) (ad : FVec Ideal S128x12 .f32) : FVec Ideal S128x12 .f32 :=
  k0_pay37 (F := Ideal) (BitVec.ofNat 32 n) lanes (k0_pay33 (BitVec.ofNat 32 n)) (score I n ps) ad
/-- The pruning mask of node `n` times its rescaling. -/
def mrow (n : ℕ) (ps : FVec Ideal S128x192 .f32) (ad : FVec Ideal S128x12 .f32) : FVec Ideal S128x12 .f32 :=
  k0_pay38 (F := Ideal) (BitVec.ofNat 32 n) lanes (k0_pay33 (BitVec.ofNat 32 n)) (score I n ps) ad
def adNext (n : ℕ) (ps : FVec Ideal S128x192 .f32) (ad : FVec Ideal S128x12 .f32) : FVec Ideal S128x12 .f32 :=
  k0_pay1 (F := Ideal) (ad1 I n ps ad) (mrow I n ps ad)
def cfNext (n : ℕ) (ps : FVec Ideal S128x192 .f32) (ad : FVec Ideal S128x12 .f32) (cf : FVec Ideal S12x128x12 .f32) : FVec Ideal S12x128x12 .f32 :=
  k0_pay3 (F := Ideal) (BitVec.ofNat 32 n) (sent I n ps ad) (mrow I n ps ad) cf
def cnNext (n : ℕ) (ps : FVec Ideal S128x192 .f32) (ad : FVec Ideal S128x12 .f32) (cf : FVec Ideal S12x128x12 .f32) : FVec Ideal S12x128x1 .f32 :=
  k0_pay4 (F := Ideal) (BitVec.ofNat 32 n) (sent I n ps ad) (mrow I n ps ad) cf

/-- One node's step. -/
def kstep (n : ℕ) (s : KS) : KS where
  f := Function.update s.f n (feat I n s)
  ad := adNext I n (psum I n s) s.ad
  cf := cfNext I n (psum I n s) s.ad s.cf
  cn := cnNext I n (psum I n s) s.ad s.cf

/-- The state before each node. -/
def K : ℕ → KS
  | 0 => ⟨fun _ _ _ _ => 0, fun _ => 0, fun _ => 0, fun _ => 0⟩
  | n + 1 => kstep I n (K n)

/-- Node `n`'s feature. -/
def Fv (n : ℕ) : Fin 196 → Fin 128 → Fin 192 → EReal := feat I n (K I n)

theorem K_f (n m : ℕ) (h : n < m) : (K I m).f n = Fv I n := by
  induction m with
  | zero => omega
  | succ m ih =>
    show Function.update (K I m).f m (feat I m (K I m)) n = _
    by_cases e : n = m
    · subst e; rw [Function.update_self]; rfl
    · rw [Function.update_of_ne e]; exact ih (by omega)

/-- At node 0 the contents met do not matter: the step writes the same over any. -/
theorem ad1_zero (ps : FVec Ideal S128x192 .f32) (a a' : FVec Ideal S128x12 .f32) : ad1 I 0 ps a = ad1 I 0 ps a' := rfl
theorem sent_zero (ps : FVec Ideal S128x192 .f32) (a a' : FVec Ideal S128x12 .f32) : sent I 0 ps a = sent I 0 ps a' := rfl
theorem mrow_zero (ps : FVec Ideal S128x192 .f32) (a a' : FVec Ideal S128x12 .f32) : mrow I 0 ps a = mrow I 0 ps a' := rfl
theorem adNext_zero (ps : FVec Ideal S128x192 .f32) (a a' : FVec Ideal S128x12 .f32) : adNext I 0 ps a = adNext I 0 ps a' := rfl
theorem cfNext_zero (ps : FVec Ideal S128x192 .f32) (a a' : FVec Ideal S128x12 .f32) (b b' : FVec Ideal S12x128x12 .f32) : cfNext I 0 ps a b = cfNext I 0 ps a' b' := rfl
theorem cnNext_zero (ps : FVec Ideal S128x192 .f32) (a a' : FVec Ideal S128x12 .f32) (b b' : FVec Ideal S12x128x12 .f32) : cnNext I 0 ps a b = cnNext I 0 ps a' b' := rfl

/-! ## The tile payloads read at an index -/

/-- One product of the combination: a node's coefficients over its stored feature. -/
abbrev tm (cn : FVec Ideal S1x16x1 .f32) (rg : FVec Ideal S1x196x16x192 .bf16) : FVec Ideal S196x16x192 .f32 :=
  mulf (broadcastTo S196x16x192 cn broadcasts_S1x16x1_S196x16x192)
    (extf .f32 (shapeCast S196x16x192 rg shapeCasts_S1x196x16x192_S196x16x192) bitsLt_bf16_f32)
/-- The combination's start. -/
abbrev z0 : FVec Ideal S196x16x192 .f32 := broadcast S196x16x192 (FloatOps.ofBits (F := Ideal) .f32 0x00000000#32)
/-- A feature tile from its combination and the node's weights. -/
abbrev ft (a : FVec Ideal S196x16x192 .f32) (w : FVec Ideal S1x192x192 .f32) : FVec Ideal S196x16x192 .f32 :=
  shapeCast S196x16x192 (maximumf (matmul dot_S3136x192_S192x192_S3136x192_1_0_0_1_n_n none
    (shapeCast S3136x192 a shapeCasts_S196x16x192_S3136x192) (shapeCast S192x192 w shapeCasts_S1x192x192_S192x192)
    (constant S3136x192 .f32 0x00000000#32)) (broadcast S3136x192 (FloatOps.ofBits (F := Ideal) .f32 0x00000000#32)))
    shapeCasts_S3136x192_S196x16x192
/-- A tile as the ring stores it, and its sum over the pixels as the pooled buffer stores it. -/
abbrev rt (T : FVec Ideal S196x16x192 .f32) : FVec Ideal S1x196x16x192 .bf16 :=
  shapeCast S1x196x16x192 (truncf .bf16 T bitsLt_bf16_f32) shapeCasts_S196x16x192_S1x196x16x192
abbrev pt16 (T : FVec Ideal S196x16x192 .f32) : FVec Ideal S16x192 .f32 :=
  shapeCast S16x192 (multiReduction .add [0] S16x192 T 0x00000000#32 reduces_S196x16x192_S16x192 (.inl rfl) rfl) shapeCasts_S16x192_S16x192

theorem tm_apply (cn : FVec Ideal S1x16x1 .f32) (rg : FVec Ideal S1x196x16x192 .bf16) (p : Fin 196) (b : Fin 16) (d : Fin 192) :
    tm cn rg (ix3 p b d) = (cn (ix3 0 b 0) * rg (ix4 0 p b d) : EReal) := by
  pointwise [tm]
theorem z0_apply (p : Fin 196) (b : Fin 16) (d : Fin 192) : z0 (ix3 p b d) = (0 : EReal) := by
  pointwise [z0]
theorem ft_apply (a : FVec Ideal S196x16x192 .f32) (w : FVec Ideal S1x192x192 .f32) (p : Fin 196) (b : Fin 16) (c : Fin 192) :
    ft a w (ix3 p b c) = (max (∑ d : Fin 192, a (ix3 p b d) * w (ix3 0 d c)) 0 : EReal) := by
  pointwise [ft]
theorem rt_apply (T : FVec Ideal S196x16x192 .f32) (p : Fin 196) (b : Fin 16) (c : Fin 192) :
    rt T (ix4 0 p b c) = (T (ix3 p b c) : EReal) := by
  pointwise [rt]
theorem pt16_apply (T : FVec Ideal S196x16x192 .f32) (b : Fin 16) (c : Fin 192) :
    pt16 T (ix2 b c) = (∑ p : Fin 196, T (ix3 p b c) : EReal) := by
  pointwise [pt16]

end Cert.KernelIdeal.Val

end
-- ==== Proof.Hand.Inv.lean ====
module

public import proofs.«01_k».proof.Proof.Hand.Spec
public import proofs.«01_k».proof.Proof.Hand.KIFrame
public import Idealize.ShloMosaic.Lib.WritesUnit
public import Idealize.ShloMosaic.Lib.VecWindow

@[expose] public section

set_option maxRecDepth 16384

noncomputable section

namespace Cert.KernelIdeal.Val

open Cert.KernelIdeal Cert.KernelIdeal.Gen
open Cert.KernelIdeal.Hand (xM outM ringM adM cfM cnM psM stM)
open Idealize.ShloMosaic Idealize.ShloMosaic.TcCoe Idealize.SL.Sem

/-! ## The invariant on the scratch buffers -/

variable (I : Inp)

/-- The ring before point `(n, s)`: the last four nodes' features, in each row block up to the node that block has reached. -/
def RingInv (n s : ℕ) (R : S4x196x128x192.Idx → EReal) : Prop :=
  ∀ (k : ℕ) (p : Fin 196) (b : Fin 128) (c : Fin 192), k < n + (if b.val / 32 < s then 1 else 0) → n + (if b.val / 32 < s then 1 else 0) ≤ k + 4 →
    R (ix4 (⟨k % 4, Nat.mod_lt _ (by decide)⟩ : Fin 4) p b c) = Fv I k p b c
/-- The pooled buffer before point `(n, s)`: node `n`'s sums in the row blocks done. -/
def PsInv (n s : ℕ) (R : S128x192.Idx → EReal) : Prop :=
  ∀ (b : Fin 128) (c : Fin 192), b.val / 32 < s → R (ix2 b c) = ∑ p : Fin 196, Fv I n p b c
/-- The result before point `(11, s)`: the last combination in the row blocks done. -/
def OutInv (s : ℕ) (R : S196x128x192.Idx → EReal) : Prop :=
  ∀ (p : Fin 196) (b : Fin 128) (c : Fin 192), b.val / 32 < s → R (ix3 p b c) = agg 11 (K I 11) p b c

/-- Every buffer the body carries from point to point, before point `(n, s)`. -/
structure Inv (n s : ℕ) (ring : S4x196x128x192.Idx → EReal) (ad : S128x12.Idx → EReal) (cf : S12x128x12.Idx → EReal)
    (cn : S12x128x1.Idx → EReal) (ps : S128x192.Idx → EReal) (out : S196x128x192.Idx → EReal) : Prop where
  ring : n ≤ 11 → RingInv I n (if n ≤ 10 then s else 0) ring
  ad : 1 ≤ n → n ≤ 11 → ad = (K I n).ad
  cf : 1 ≤ n → n ≤ 11 → cf = (K I n).cf
  cn : 1 ≤ n → n ≤ 11 → cn = (K I n).cn
  ps : n ≤ 10 → PsInv I n s ps
  out : 11 ≤ n → OutInv I (if n = 11 then s else 4) out

/-- Row `b` of tile `r` of row block `s`. -/
def row (s : ℕ) (r : Fin 2) (b : Fin 16) : Fin 128 := ⟨32 * min s 3 + 16 * r.val + b.val, by omega⟩

/-! ## Loads at an index -/

section Loads
variable {sig : RefSig} {κ : Kind} {sp : Space} {s : Shape} {e : EltTy} {Val : EltTy → Type}

/-- A load of a unit-stride rectangle reads, at each position, the view at the offsets plus the position. -/
theorem ld_at (v : View sig κ sp s e) (f : v.ty.Contents Val) {off off' size : Fin s.rank → ℕ} (inb : ∀ a, off a + size a ≤ s.size a)
    (h : off = off') (y : (Rect.unit off size inb).shape.Idx) (z : s.Idx) (hz : ∀ a, (z a).val = off' a + (y a).val) :
    v.readAt Val (Rect.unit off size inb).toLoadRect f y = v.read Val f z := by
  subst h
  exact congrArg (v.read Val f) (funext fun a => Fin.ext (by
    show off a + 1 * (y a).val = (z a).val
    rw [hz a, Nat.one_mul]))

/-- What a slice reads is what its parent reads at the offsets plus the position. -/
theorem slice_at (v : View sig κ sp s e) (f : v.ty.Contents Val) {off off' size : Fin s.rank → ℕ} (inb : ∀ a, off a + size a ≤ s.size a)
    (h : off = off') (y : (Rect.unit off size inb).shape.Idx) (z : s.Idx) (hz : ∀ a, (z a).val = off' a + (y a).val) :
    (v.slice (Rect.unit off size inb)).read Val f y = v.read Val f z := by
  subst h
  exact congrArg (v.read Val f) (funext fun a => Fin.ext (by
    show off a + 1 * (y a).val = (z a).val
    rw [hz a, Nat.one_mul]))

end Loads

theorem cn_ld (g : cnM.view.ty.Contents (Elt Ideal)) {off : Fin 3 → ℕ} (inb : ∀ a, off a + S1x16x1.size a ≤ S12x128x1.size a)
    (q : ℕ) (hq : q < 12) (s : ℕ) (r : Fin 2) (h : off = ![q, 32 * (min s 3) + 16 * r.val, 0]) (b : Fin 16) :
    (cnM.view.readAt (Elt Ideal) (Rect.unit (s := S12x128x1) off S1x16x1.size inb).toLoadRect g : FVec Ideal S1x16x1 .f32) (ix3 0 b 0)
      = (cnM.view.read (Elt Ideal) g : FVec Ideal S12x128x1 .f32) (ix3 (⟨q, hq⟩ : Fin 12) (row s r b) 0) := by
  refine ld_at cnM.view g inb h _ _ fun a => ?_
  fin_cases a <;> simp [row]

theorem ring_ld (g : ringM.view.ty.Contents (Elt Ideal)) {off : Fin 4 → ℕ} (inb : ∀ a, off a + S1x196x16x192.size a ≤ S4x196x128x192.size a)
    (q : ℕ) (hq : q < 4) (s : ℕ) (r : Fin 2) (h : off = ![q, 0, 32 * (min s 3) + 16 * r.val, 0]) (p : Fin 196) (b : Fin 16) (d : Fin 192) :
    (ringM.view.readAt (Elt Ideal) (Rect.unit (s := S4x196x128x192) off S1x196x16x192.size inb).toLoadRect g : FVec Ideal S1x196x16x192 .bf16) (ix4 0 p b d)
      = (ringM.view.read (Elt Ideal) g : FVec Ideal S4x196x128x192 .bf16) (ix4 (⟨q, hq⟩ : Fin 4) p (row s r b) d) := by
  refine ld_at ringM.view g inb h _ _ fun a => ?_
  fin_cases a <;> simp [row]

theorem wt_ld (M0 : Memref sig .tc .vmem S10x192x192 .f32) (f : M0.view.ty.Contents (Elt Ideal)) (hf : M0.view.read (Elt Ideal) f = I.wt)
    {off : Fin 3 → ℕ} (inb : ∀ a, off a + S1x192x192.size a ≤ S10x192x192.size a) (n : ℕ) (hn : n - 1 < 10) (h : off = ![n - 1, 0, 0]) (d c : Fin 192) :
    (M0.view.readAt (Elt Ideal) (Rect.unit (s := S10x192x192) off S1x192x192.size inb).toLoadRect f : FVec Ideal S1x192x192 .f32) (ix3 0 d c)
      = I.wt (ix3 (⟨n - 1, hn⟩ : Fin 10) d c) := by
  rw [← hf]
  refine ld_at M0.view f inb h _ _ fun a => ?_
  fin_cases a <;> simp

/-- One product of the combination at node `n`, read at an index: the coefficient and the feature of the node `o + 1` back. -/
theorem tm_ld (n s : ℕ) (hn : n ≤ 11) (o : Fin 4) (ho : o.val + 1 ≤ n) (r : Fin 2)
    (g0 : ringM.view.ty.Contents (Elt Ideal)) (g3 : cnM.view.ty.Contents (Elt Ideal))
    (hr : RingInv I n (if n ≤ 10 then s else 0) (ringM.view.read (Elt Ideal) g0)) (hc : cnM.view.read (Elt Ideal) g3 = (K I n).cn) (hs : s < 4)
    {offc : Fin 3 → ℕ} (inbc : ∀ a, offc a + S1x16x1.size a ≤ S12x128x1.size a) {offr : Fin 4 → ℕ} (inbr : ∀ a, offr a + S1x196x16x192.size a ≤ S4x196x128x192.size a)
    (ec : offc = ![n - (o.val + 1), 32 * (min s 3) + 16 * r.val, 0]) (er : offr = ![(n - (o.val + 1)) % 4, 0, 32 * (min s 3) + 16 * r.val, 0])
    (p : Fin 196) (b : Fin 16) (d : Fin 192) :
    tm (cnM.view.readAt (Elt Ideal) (Rect.unit (s := S12x128x1) offc S1x16x1.size inbc).toLoadRect g3)
        (ringM.view.readAt (Elt Ideal) (Rect.unit (s := S4x196x128x192) offr S1x196x16x192.size inbr).toLoadRect g0) (ix3 p b d)
      = (if h : o.val + 1 ≤ n ∧ n ≤ 11 then (K I n).cn (ix3 (⟨n - (o.val + 1), by omega⟩ : Fin 12) (row s r b) 0) * (K I n).f (n - (o.val + 1)) p (row s r b) d else 0 : EReal) := by
  rw [dif_pos ⟨ho, hn⟩, tm_apply, cn_ld g3 inbc _ (by omega) s r ec b, ring_ld g0 inbr _ (Nat.mod_lt _ (by decide)) s r er p b d]
  have hrow : ¬ ((row s r b).val / 32 < s) := by simp only [row]; omega
  have e1 := hr (n - (o.val + 1)) p (row s r b) d (by split_ifs <;> omega) (by
    have : o.val < 4 := o.2
    have h2 : ¬ ((row s r b).val / 32 < if n ≤ 10 then s else 0) := by split_ifs <;> omega
    rw [if_neg h2]; omega)
  rw [K_f I _ n (by omega)]
  refine Ideal.mul_congr ?_ e1
  exact congrFun hc _

/-! ## Two tiles stored -/

section Two
variable {sig : RefSig} {κ : Kind} {sp : Space} {s : Shape} {e : EltTy} {Val : EltTy → Type} (v : View sig κ sp s e) (f : v.ty.Contents Val)
  {off1 off1' off0 off0' size : Fin s.rank → ℕ} (inb1 : ∀ a, off1 a + size a ≤ s.size a) (inb0 : ∀ a, off0 a + size a ≤ s.size a)
  (w1 : (Rect.unit off1 size inb1).shape.Idx → Val e) (w0 : (Rect.unit off0 size inb0).shape.Idx → Val e) (y : s.Idx)
  (e1 : off1 = off1') (e0 : off0 = off0')
include e1

/-- Two stores read under the later one. -/
theorem two_hit1 (x : (Rect.unit off1 size inb1).shape.Idx) (hx : ∀ a, (y a).val = off1' a + (x a).val) :
    v.read Val (v.writes Val f [(⟨Rect.unit off1 size inb1, w1⟩ : View.Piece Val s e), ⟨Rect.unit off0 size inb0, w0⟩]) y = w1 x :=
  View.read_writes_cons_unit_of_mem v f inb1 w1 _ y x e1 hx
include e0
/-- Two stores read under the earlier one only. -/
theorem two_hit0 (x : (Rect.unit off0 size inb0).shape.Idx) (a : Fin s.rank) (ha : (y a).val < off1' a ∨ off1' a + size a ≤ (y a).val)
    (hx : ∀ a, (y a).val = off0' a + (x a).val) :
    v.read Val (v.writes Val f [(⟨Rect.unit off1 size inb1, w1⟩ : View.Piece Val s e), ⟨Rect.unit off0 size inb0, w0⟩]) y = w0 x :=
  (View.read_writes_cons_unit_of_not_mem v f inb1 w1 _ y e1 a ha).trans (View.read_writes_cons_unit_of_mem v f inb0 w0 _ y x e0 hx)
/-- Two stores read under neither. -/
theorem two_miss (a : Fin s.rank) (ha : (y a).val < off1' a ∨ off1' a + size a ≤ (y a).val) (ha' : (y a).val < off0' a ∨ off0' a + size a ≤ (y a).val) :
    v.read Val (v.writes Val f [(⟨Rect.unit off1 size inb1, w1⟩ : View.Piece Val s e), ⟨Rect.unit off0 size inb0, w0⟩]) y = v.read Val f y :=
  (View.read_writes_cons_unit_of_not_mem v f inb1 w1 _ y e1 a ha).trans (View.read_writes_cons_unit_of_not_mem v f inb0 w0 _ y e0 a ha')

end Two

theorem row_lo (s : ℕ) (hs : s < 4) (b : Fin 128) (hbs : b.val / 32 = s) (hlo : b.val % 32 < 16) : b = row s 0 ⟨b.val % 32, hlo⟩ :=
  Fin.ext (by simp only [row, Fin.val_zero]; omega)
theorem row_hi (s : ℕ) (hs : s < 4) (b : Fin 128) (hbs : b.val / 32 = s) (hlo : ¬ b.val % 32 < 16) : b = row s 1 ⟨b.val % 32 - 16, by omega⟩ :=
  Fin.ext (by simp only [row, Fin.val_one]; omega)

theorem ring_step (n s : ℕ) (hs : s < 4) (g0 : ringM.view.ty.Contents (Elt Ideal)) {off1 off0 : Fin 4 → ℕ}
    (inb1 : ∀ a, off1 a + S1x196x16x192.size a ≤ S4x196x128x192.size a) (inb0 : ∀ a, off0 a + S1x196x16x192.size a ≤ S4x196x128x192.size a)
    (e1 : off1 = ![n % 4, 0, 32 * (min s 3) + 16 * (1 : Fin 2).val, 0]) (e0 : off0 = ![n % 4, 0, 32 * (min s 3) + 16 * (0 : Fin 2).val, 0])
    (w1 w0 : FVec Ideal S1x196x16x192 .bf16) (h1 : ∀ p b c, w1 (ix4 0 p b c) = Fv I n p (row s 1 b) c) (h0 : ∀ p b c, w0 (ix4 0 p b c) = Fv I n p (row s 0 b) c)
    (hr : RingInv I n s (ringM.view.read (Elt Ideal) g0)) :
    RingInv I n (s + 1) (ringM.view.read (Elt Ideal) (ringM.view.writes (Elt Ideal) g0
      [⟨Rect.unit (s := S4x196x128x192) off1 S1x196x16x192.size inb1, w1⟩, ⟨Rect.unit (s := S4x196x128x192) off0 S1x196x16x192.size inb0, w0⟩])) := by
  intro k p b c hk1 hk2
  have hb := b.2
  by_cases hbs : b.val / 32 = s
  · rw [if_pos (by omega)] at hk1 hk2
    by_cases hkn : k = n
    · subst hkn
      by_cases hlo : b.val % 32 < 16
      · refine (two_hit0 ringM.view g0 inb1 inb0 w1 w0 (ix4 (⟨k % 4, Nat.mod_lt _ (by decide)⟩ : Fin 4) p b c) e1 e0 (ix4 0 p (⟨b.val % 32, hlo⟩ : Fin 16) c) (2 : Fin 4) (Or.inl ?_) (fun a => ?_)).trans ((h0 p (⟨b.val % 32, hlo⟩ : Fin 16) c).trans ?_)
        · simp; omega
        · fin_cases a <;> simp <;> omega
        · rw [← row_lo s hs b hbs hlo]
      · refine (two_hit1 ringM.view g0 inb1 inb0 w1 w0 (ix4 (⟨k % 4, Nat.mod_lt _ (by decide)⟩ : Fin 4) p b c) e1 (ix4 0 p (⟨b.val % 32 - 16, by omega⟩ : Fin 16) c) (fun a => ?_)).trans ((h1 p (⟨b.val % 32 - 16, by omega⟩ : Fin 16) c).trans ?_)
        · fin_cases a <;> simp <;> omega
        · rw [← row_hi s hs b hbs hlo]
    · refine (two_miss ringM.view g0 inb1 inb0 w1 w0 (ix4 (⟨k % 4, Nat.mod_lt _ (by decide)⟩ : Fin 4) p b c) e1 e0 (0 : Fin 4) ?_ ?_).trans ?_
      · simp; omega
      · simp; omega
      · exact hr k p b c (by rw [if_neg (by omega)]; omega) (by rw [if_neg (by omega)]; omega)
  · refine (two_miss ringM.view g0 inb1 inb0 w1 w0 (ix4 (⟨k % 4, Nat.mod_lt _ (by decide)⟩ : Fin 4) p b c) e1 e0 (2 : Fin 4) ?_ ?_).trans ?_
    · simp; omega
    · simp; omega
    · have e : (if b.val / 32 < s + 1 then 1 else 0) = (if b.val / 32 < s then 1 else 0) := by split_ifs <;> omega
      rw [e] at hk1 hk2
      exact hr k p b c hk1 hk2

theorem ps_step (n s : ℕ) (hs : s < 4) (g4 : psM.view.ty.Contents (Elt Ideal)) {off1 off0 : Fin 2 → ℕ}
    (inb1 : ∀ a, off1 a + S16x192.size a ≤ S128x192.size a) (inb0 : ∀ a, off0 a + S16x192.size a ≤ S128x192.size a)
    (e1 : off1 = ![32 * (min s 3) + 16 * (1 : Fin 2).val, 0]) (e0 : off0 = ![32 * (min s 3) + 16 * (0 : Fin 2).val, 0])
    (w1 w0 : FVec Ideal S16x192 .f32) (h1 : ∀ b c, w1 (ix2 b c) = ∑ p, Fv I n p (row s 1 b) c) (h0 : ∀ b c, w0 (ix2 b c) = ∑ p, Fv I n p (row s 0 b) c)
    (hr : PsInv I n s (psM.view.read (Elt Ideal) g4)) :
    PsInv I n (s + 1) (psM.view.read (Elt Ideal) (psM.view.writes (Elt Ideal) g4
      [⟨Rect.unit (s := S128x192) off1 S16x192.size inb1, w1⟩, ⟨Rect.unit (s := S128x192) off0 S16x192.size inb0, w0⟩])) := by
  intro b c hk
  have hb := b.2
  by_cases hbs : b.val / 32 = s
  · by_cases hlo : b.val % 32 < 16
    · refine (two_hit0 psM.view g4 inb1 inb0 w1 w0 (ix2 b c) e1 e0 (ix2 (⟨b.val % 32, hlo⟩ : Fin 16) c) (0 : Fin 2) (Or.inl ?_) (fun a => ?_)).trans ((h0 (⟨b.val % 32, hlo⟩ : Fin 16) c).trans ?_)
      · simp; omega
      · fin_cases a <;> simp <;> omega
      · rw [← row_lo s hs b hbs hlo]
    · refine (two_hit1 psM.view g4 inb1 inb0 w1 w0 (ix2 b c) e1 (ix2 (⟨b.val % 32 - 16, by omega⟩ : Fin 16) c) (fun a => ?_)).trans ((h1 (⟨b.val % 32 - 16, by omega⟩ : Fin 16) c).trans ?_)
      · fin_cases a <;> simp <;> omega
      · rw [← row_hi s hs b hbs hlo]
  · refine (two_miss psM.view g4 inb1 inb0 w1 w0 (ix2 b c) e1 e0 (0 : Fin 2) ?_ ?_).trans ?_
    · simp; omega
    · simp; omega
    · exact hr b c (by omega)

theorem out_step (s : ℕ) (hs : s < 4) (fo : outM.view.ty.Contents (Elt Ideal)) {off1 off0 : Fin 3 → ℕ}
    (inb1 : ∀ a, off1 a + S196x16x192.size a ≤ S196x128x192.size a) (inb0 : ∀ a, off0 a + S196x16x192.size a ≤ S196x128x192.size a)
    (e1 : off1 = ![0, 32 * (min s 3) + 16 * (1 : Fin 2).val, 0]) (e0 : off0 = ![0, 32 * (min s 3) + 16 * (0 : Fin 2).val, 0])
    (w1 w0 : FVec Ideal S196x16x192 .f32) (h1 : ∀ p b c, w1 (ix3 p b c) = agg 11 (K I 11) p (row s 1 b) c) (h0 : ∀ p b c, w0 (ix3 p b c) = agg 11 (K I 11) p (row s 0 b) c)
    (hr : OutInv I s (outM.view.read (Elt Ideal) fo)) :
    OutInv I (s + 1) (outM.view.read (Elt Ideal) (outM.view.writes (Elt Ideal) fo
      [⟨Rect.unit (s := S196x128x192) off1 S196x16x192.size inb1, w1⟩, ⟨Rect.unit (s := S196x128x192) off0 S196x16x192.size inb0, w0⟩])) := by
  intro p b c hk
  have hb := b.2
  by_cases hbs : b.val / 32 = s
  · by_cases hlo : b.val % 32 < 16
    · refine (two_hit0 outM.view fo inb1 inb0 w1 w0 (ix3 p b c) e1 e0 (ix3 p (⟨b.val % 32, hlo⟩ : Fin 16) c) (1 : Fin 3) (Or.inl ?_) (fun a => ?_)).trans ((h0 p (⟨b.val % 32, hlo⟩ : Fin 16) c).trans ?_)
      · simp; omega
      · fin_cases a <;> simp <;> omega
      · rw [← row_lo s hs b hbs hlo]
    · refine (two_hit1 outM.view fo inb1 inb0 w1 w0 (ix3 p b c) e1 (ix3 p (⟨b.val % 32 - 16, by omega⟩ : Fin 16) c) (fun a => ?_)).trans ((h1 p (⟨b.val % 32 - 16, by omega⟩ : Fin 16) c).trans ?_)
      · fin_cases a <;> simp <;> omega
      · rw [← row_hi s hs b hbs hlo]
  · refine (two_miss outM.view fo inb1 inb0 w1 w0 (ix3 p b c) e1 e0 (1 : Fin 3) ?_ ?_).trans ?_
    · simp; omega
    · simp; omega
    · exact hr p b c (by omega)

/-! ## The tiles are the features -/

/-- A tile computed from the combination's tile and the node's weights holds the node's feature. -/
theorem ft_feat (n : ℕ) (h1 : 1 ≤ n) (h2 : n ≤ 10) (B : Fin 16 → Fin 128) (a : FVec Ideal S196x16x192 .f32) (w : FVec Ideal S1x192x192 .f32)
    (ha : ∀ p b d, a (ix3 p b d) = agg n (K I n) p (B b) d) (hw : ∀ d c, w (ix3 0 d c) = I.wt (ix3 (⟨n - 1, by omega⟩ : Fin 10) d c))
    (p : Fin 196) (b : Fin 16) (c : Fin 192) : ft a w (ix3 p b c) = Fv I n p (B b) c := by
  rw [ft_apply]
  unfold Fv feat
  rw [if_neg (by omega), dif_pos (by omega)]
  refine congrArg₂ max (Finset.sum_congr rfl fun d _ => ?_) rfl
  rw [ha, hw]

theorem rt_feat (n : ℕ) (B : Fin 16 → Fin 128) (T : FVec Ideal S196x16x192 .f32) (hT : ∀ p b c, T (ix3 p b c) = Fv I n p (B b) c) (p : Fin 196) (b : Fin 16) (c : Fin 192) :
    rt T (ix4 0 p b c) = Fv I n p (B b) c := (rt_apply T p b c).trans (hT p b c)
theorem pt_feat (n : ℕ) (B : Fin 16 → Fin 128) (T : FVec Ideal S196x16x192 .f32) (hT : ∀ p b c, T (ix3 p b c) = Fv I n p (B b) c) (b : Fin 16) (c : Fin 192) :
    pt16 T (ix2 b c) = ∑ p, Fv I n p (B b) c := (pt16_apply T b c).trans (Finset.sum_congr rfl fun p _ => hT p b c)

end Cert.KernelIdeal.Val

end
-- ==== Proof.Hand.Tiles.lean ====
module

public import proofs.«01_k».proof.Proof.Hand.Inv

@[expose] public section

set_option maxRecDepth 16384

noncomputable section

namespace Cert.KernelIdeal.Val

open Cert.KernelIdeal Cert.KernelIdeal.Gen
open Cert.KernelIdeal.Hand (xM outM ringM adM cfM cnM psM stM)
open Idealize.ShloMosaic Idealize.ShloMosaic.TcCoe Idealize.SL.Sem

/-! ## How each kind of grid point moves the invariant -/

variable (I : Inp)

/-- The combination term by term. -/
theorem agg_terms (n : ℕ) (s : KS) (p : Fin 196) (b : Fin 128) (d : Fin 192) (T : Fin 4 → EReal)
    (h : ∀ o : Fin 4, (if h : o.val + 1 ≤ n ∧ n ≤ 11 then s.cn (ix3 (⟨n - (o.val + 1), by omega⟩ : Fin 12) b 0) * s.f (n - (o.val + 1)) p b d else 0) = T o) :
    agg n s p b d = T 0 + T 1 + T 2 + T 3 := by
  unfold agg
  rw [Fin.sum_univ_four]
  exact congrArg₂ (· + ·) (congrArg₂ (· + ·) (congrArg₂ (· + ·) (h 0) (h 1)) (h 2)) (h 3)

/-- The combination over fewer than four earlier nodes. -/
theorem agg_one (s : KS) (p : Fin 196) (b : Fin 128) (d : Fin 192) (t : EReal)
    (h : (if h : (0 : Fin 4).val + 1 ≤ 1 ∧ 1 ≤ 11 then s.cn (ix3 (⟨1 - ((0 : Fin 4).val + 1), by omega⟩ : Fin 12) b 0) * s.f (1 - ((0 : Fin 4).val + 1)) p b d else 0) = t) :
    agg 1 s p b d = t := by
  refine (agg_terms 1 s p b d ![t, 0, 0, 0] fun o => ?_).trans (by simp)
  fin_cases o
  · exact h
  all_goals exact dif_neg (by simp)
theorem agg_two (s : KS) (p : Fin 196) (b : Fin 128) (d : Fin 192) (t u : EReal)
    (h0 : (if h : (0 : Fin 4).val + 1 ≤ 2 ∧ 2 ≤ 11 then s.cn (ix3 (⟨2 - ((0 : Fin 4).val + 1), by omega⟩ : Fin 12) b 0) * s.f (2 - ((0 : Fin 4).val + 1)) p b d else 0) = t)
    (h1 : (if h : (1 : Fin 4).val + 1 ≤ 2 ∧ 2 ≤ 11 then s.cn (ix3 (⟨2 - ((1 : Fin 4).val + 1), by omega⟩ : Fin 12) b 0) * s.f (2 - ((1 : Fin 4).val + 1)) p b d else 0) = u) :
    agg 2 s p b d = u + t := by
  refine (agg_terms 2 s p b d ![t, u, 0, 0] fun o => ?_).trans (by simp [add_comm])
  fin_cases o
  · exact h0
  · exact h1
  all_goals exact dif_neg (by simp)
theorem agg_three (s : KS) (p : Fin 196) (b : Fin 128) (d : Fin 192) (t u v : EReal)
    (h0 : (if h : (0 : Fin 4).val + 1 ≤ 3 ∧ 3 ≤ 11 then s.cn (ix3 (⟨3 - ((0 : Fin 4).val + 1), by omega⟩ : Fin 12) b 0) * s.f (3 - ((0 : Fin 4).val + 1)) p b d else 0) = t)
    (h1 : (if h : (1 : Fin 4).val + 1 ≤ 3 ∧ 3 ≤ 11 then s.cn (ix3 (⟨3 - ((1 : Fin 4).val + 1), by omega⟩ : Fin 12) b 0) * s.f (3 - ((1 : Fin 4).val + 1)) p b d else 0) = u)
    (h2 : (if h : (2 : Fin 4).val + 1 ≤ 3 ∧ 3 ≤ 11 then s.cn (ix3 (⟨3 - ((2 : Fin 4).val + 1), by omega⟩ : Fin 12) b 0) * s.f (3 - ((2 : Fin 4).val + 1)) p b d else 0) = v) :
    agg 3 s p b d = v + u + t := by
  refine (agg_terms 3 s p b d ![t, u, v, 0] fun o => ?_).trans (by
    show t + u + v + 0 = _
    rw [add_zero, add_comm, add_comm t u, add_assoc])
  fin_cases o
  · exact h0
  · exact h1
  · exact h2
  all_goals exact dif_neg (by simp)

/-- The combination term by term, the oldest first. -/
theorem agg_rev (n : ℕ) (s : KS) (p : Fin 196) (b : Fin 128) (d : Fin 192) (t0 t1 t2 t3 : EReal)
    (h0 : (if h : (0 : Fin 4).val + 1 ≤ n ∧ n ≤ 11 then s.cn (ix3 (⟨n - ((0 : Fin 4).val + 1), by omega⟩ : Fin 12) b 0) * s.f (n - ((0 : Fin 4).val + 1)) p b d else 0) = t0)
    (h1 : (if h : (1 : Fin 4).val + 1 ≤ n ∧ n ≤ 11 then s.cn (ix3 (⟨n - ((1 : Fin 4).val + 1), by omega⟩ : Fin 12) b 0) * s.f (n - ((1 : Fin 4).val + 1)) p b d else 0) = t1)
    (h2 : (if h : (2 : Fin 4).val + 1 ≤ n ∧ n ≤ 11 then s.cn (ix3 (⟨n - ((2 : Fin 4).val + 1), by omega⟩ : Fin 12) b 0) * s.f (n - ((2 : Fin 4).val + 1)) p b d else 0) = t2)
    (h3 : (if h : (3 : Fin 4).val + 1 ≤ n ∧ n ≤ 11 then s.cn (ix3 (⟨n - ((3 : Fin 4).val + 1), by omega⟩ : Fin 12) b 0) * s.f (n - ((3 : Fin 4).val + 1)) p b d else 0) = t3) :
    agg n s p b d = t3 + t2 + t1 + t0 := by
  refine (agg_terms n s p b d ![t0, t1, t2, t3] fun o => ?_).trans (by
    show t0 + t1 + t2 + t3 = _
    rw [add_comm, add_comm (t0 + t1), add_comm t0, add_assoc, add_assoc, ← add_assoc t2])
  fin_cases o
  · exact h0
  · exact h1
  · exact h2
  · exact h3

/-- A sum of tiles read at an index. -/
theorem a1_apply (t1 : FVec Ideal S196x16x192 .f32) (p : Fin 196) (b : Fin 16) (d : Fin 192) :
    addf z0 t1 (ix3 p b d) = (t1 (ix3 p b d) : EReal) := (congrArg (· + _) (z0_apply p b d)).trans (zero_add _)
theorem a2_apply (t1 t2 : FVec Ideal S196x16x192 .f32) (p : Fin 196) (b : Fin 16) (d : Fin 192) :
    addf (addf z0 t1) t2 (ix3 p b d) = (t1 (ix3 p b d) + t2 (ix3 p b d) : EReal) := congrArg (· + _) (a1_apply t1 p b d)
theorem a3_apply (t1 t2 t3 : FVec Ideal S196x16x192 .f32) (p : Fin 196) (b : Fin 16) (d : Fin 192) :
    addf (addf (addf z0 t1) t2) t3 (ix3 p b d) = (t1 (ix3 p b d) + t2 (ix3 p b d) + t3 (ix3 p b d) : EReal) := congrArg (· + _) (a2_apply t1 t2 p b d)
theorem a4_apply (t1 t2 t3 t4 : FVec Ideal S196x16x192 .f32) (p : Fin 196) (b : Fin 16) (d : Fin 192) :
    addf (addf (addf (addf z0 t1) t2) t3) t4 (ix3 p b d) = (t1 (ix3 p b d) + t2 (ix3 p b d) + t3 (ix3 p b d) + t4 (ix3 p b d) : EReal) := congrArg (· + _) (a3_apply t1 t2 t3 p b d)

/-- A tile of the first node's feature, brought in by a transfer and loaded. -/
theorem x_ld (g5 : stM.view.ty.Contents (Elt Ideal)) (fx : xM.view.ty.Contents (Elt Ideal)) (hx : xM.view.read (Elt Ideal) fx = I.x)
    {o5 : Fin 3 → ℕ} (inb5 : ∀ a, o5 a + S196x16x192.size a ≤ S196x16x192.size a) {off : Fin 3 → ℕ}
    (inb : ∀ a, off a + S196x16x192.size a ≤ S196x128x192.size a) (s : ℕ) (r : Fin 2) (h : off = ![0, 32 * (min s 3) + 16 * r.val, 0])
    (hs) (p : Fin 196) (b : Fin 16) (c : Fin 192) :
    (stM.view.readAt (Elt Ideal) (Rect.unit (s := S196x16x192) o5 S196x16x192.size inb5).toLoadRect
      (View.write (Elt Ideal) stM.view g5 (ReadAs.same.apply (View.read (Elt Ideal)
        (xM.slice (Rect.unit (s := S196x128x192) off S196x16x192.size inb) hs).view fx)) Finset.univ) : FVec Ideal S196x16x192 .f32) (ix3 p b c)
      = Fv I 0 p (row s r b) c := by
  rw [View.readAt_full, View.read_write_univ, ReadAs.apply_same]
  refine (slice_at (s := S196x128x192) xM.view fx inb h (ix3 p b c) (ix3 p (row s r b) c) fun a => ?_).trans (congrFun hx _)
  fin_cases a <;> simp [row]

/-- A tile stored whole in the staging buffer, moved as it is. -/
theorem st_ld (g5 : stM.view.ty.Contents (Elt Ideal)) {o5 : Fin 3 → ℕ} (inb5 : ∀ a, o5 a + S196x16x192.size a ≤ S196x16x192.size a)
    (T : FVec Ideal S196x16x192 .f32) (L) (h : S196x16x192.ShapeCasts S196x16x192) {v : Fin 196 → Fin 16 → Fin 192 → EReal} (hT : ∀ p b c, T (ix3 p b c) = v p b c)
    (p : Fin 196) (b : Fin 16) (c : Fin 192) :
    (ReadAs.same.apply (View.read (Elt Ideal) stM.view (stM.view.writes (Elt Ideal) g5 (⟨Rect.unit (s := S196x16x192) o5 S196x16x192.size inb5, shapeCast S196x16x192 T h⟩ :: L)))
      : FVec Ideal S196x16x192 .f32) (ix3 p b c) = v p b c := by
  rw [ReadAs.apply_same, View.read_writes_full, shapeCast_self]
  exact hT p b c

/-- A point that stores two tiles of node `n`'s feature and their sums. -/
theorem inv_tile (n s : ℕ) (hn : n ≤ 10) (hs : s < 4) (g0 : ringM.view.ty.Contents (Elt Ideal)) (g4 : psM.view.ty.Contents (Elt Ideal))
    {ad cf cn out} (h : Inv I n s (ringM.view.read (Elt Ideal) g0) ad cf cn (psM.view.read (Elt Ideal) g4) out)
    {off1 off0 : Fin 4 → ℕ} (inb1 : ∀ a, off1 a + S1x196x16x192.size a ≤ S4x196x128x192.size a) (inb0 : ∀ a, off0 a + S1x196x16x192.size a ≤ S4x196x128x192.size a)
    (e1 : off1 = ![n % 4, 0, 32 * (min s 3) + 16 * (1 : Fin 2).val, 0]) (e0 : off0 = ![n % 4, 0, 32 * (min s 3) + 16 * (0 : Fin 2).val, 0])
    {poff1 poff0 : Fin 2 → ℕ} (pinb1 : ∀ a, poff1 a + S16x192.size a ≤ S128x192.size a) (pinb0 : ∀ a, poff0 a + S16x192.size a ≤ S128x192.size a)
    (pe1 : poff1 = ![32 * (min s 3) + 16 * (1 : Fin 2).val, 0]) (pe0 : poff0 = ![32 * (min s 3) + 16 * (0 : Fin 2).val, 0])
    (T1 T0 : FVec Ideal S196x16x192 .f32) (h1 : ∀ p b c, T1 (ix3 p b c) = Fv I n p (row s 1 b) c) (h0 : ∀ p b c, T0 (ix3 p b c) = Fv I n p (row s 0 b) c) :
    Inv I n (s + 1) (ringM.view.read (Elt Ideal) (ringM.view.writes (Elt Ideal) g0
        [⟨Rect.unit (s := S4x196x128x192) off1 S1x196x16x192.size inb1, rt T1⟩, ⟨Rect.unit (s := S4x196x128x192) off0 S1x196x16x192.size inb0, rt T0⟩])) ad cf cn
      (psM.view.read (Elt Ideal) (psM.view.writes (Elt Ideal) g4
        [⟨Rect.unit (s := S128x192) poff1 S16x192.size pinb1, pt16 T1⟩, ⟨Rect.unit (s := S128x192) poff0 S16x192.size pinb0, pt16 T0⟩])) out where
  ring _ := by
    have hr := h.ring (by omega)
    rw [if_pos hn] at hr ⊢
    exact ring_step I n s hs g0 inb1 inb0 e1 e0 _ _ (rt_feat I n _ T1 h1) (rt_feat I n _ T0 h0) hr
  ad := h.ad
  cf := h.cf
  cn := h.cn
  ps _ := ps_step I n s hs g4 pinb1 pinb0 pe1 pe0 _ _ (pt_feat I n _ T1 h1) (pt_feat I n _ T0 h0) (h.ps hn)
  out h11 := absurd h11 (by omega)

/-- A point that stores two tiles of the last combination. -/
theorem inv_out (s : ℕ) (hs : s < 4) (fo : outM.view.ty.Contents (Elt Ideal)) {ring ad cf cn ps} (h : Inv I 11 s ring ad cf cn ps (outM.view.read (Elt Ideal) fo))
    {off1 off0 : Fin 3 → ℕ}
    (inb1 : ∀ a, off1 a + S196x16x192.size a ≤ S196x128x192.size a) (inb0 : ∀ a, off0 a + S196x16x192.size a ≤ S196x128x192.size a)
    (e1 : off1 = ![0, 32 * (min s 3) + 16 * (1 : Fin 2).val, 0]) (e0 : off0 = ![0, 32 * (min s 3) + 16 * (0 : Fin 2).val, 0])
    (w1 w0 : FVec Ideal S196x16x192 .f32) (h1 : ∀ p b c, w1 (ix3 p b c) = agg 11 (K I 11) p (row s 1 b) c) (h0 : ∀ p b c, w0 (ix3 p b c) = agg 11 (K I 11) p (row s 0 b) c)
    (hs1 hs0) :
    Inv I 11 (s + 1) ring ad cf cn ps (outM.view.read (Elt Ideal)
      (View.write (Elt Ideal) (outM.slice (Rect.unit (s := S196x128x192) off1 S196x16x192.size inb1) hs1).view
        (View.write (Elt Ideal) (outM.slice (Rect.unit (s := S196x128x192) off0 S196x16x192.size inb0) hs0).view fo w0 Finset.univ) w1 Finset.univ)) where
  ring := h.ring
  ad := h.ad
  cf := h.cf
  cn := h.cn
  ps h10 := absurd h10 (by omega)
  out _ := by
    rw [if_pos rfl]
    exact out_step I s hs fo inb1 inb0 e1 e0 w1 w0 h1 h0 (by simpa using h.out le_rfl)

/-- The pooled buffer once node `n`'s four row blocks are done. -/
theorem ps_full (n : ℕ) (R : FVec Ideal S128x192 .f32) (h : PsInv I n 4 R) : R = psum I n (K I n) := by
  funext j
  obtain ⟨b, c, rfl⟩ : ∃ (b : Fin 128) (c : Fin 192), j = ix2 b c := ⟨j 0, j 1, by funext a; fin_cases a <;> rfl⟩
  exact h b c (by omega)

/-- The point that hands a node's attention out. -/
theorem inv_route (n : ℕ) (hn : n ≤ 10) {ring ad cf cn ps out} (h : Inv I n 4 ring ad cf cn ps out) :
    Inv I (n + 1) 0 ring (adNext I n ps ad) (cfNext I n ps ad cf) (cnNext I n ps ad cf) ps out where
  ring _ := by
    have hr := h.ring (by omega)
    rw [if_pos hn] at hr
    intro k p b c h1 h2
    have e : (if b.val / 32 < 4 then 1 else 0) = 1 := if_pos (by omega)
    have e' : ∀ m, (if n + 1 ≤ 10 then 0 else 0) = m → (if b.val / 32 < m then 1 else 0) = 0 := by rintro m rfl; rw [if_neg (by split_ifs <;> omega)]
    rw [e' _ rfl] at h1 h2
    exact hr k p b c (by rw [e]; omega) (by rw [e]; omega)
  ad _ _ := by
    rw [ps_full I n ps (h.ps hn)]
    rcases Nat.eq_zero_or_pos n with rfl | h0
    · exact adNext_zero I _ _ _
    · rw [h.ad h0 (by omega)]; rfl
  cf _ _ := by
    rw [ps_full I n ps (h.ps hn)]
    rcases Nat.eq_zero_or_pos n with rfl | h0
    · exact cfNext_zero I _ _ _ _ _
    · rw [h.ad h0 (by omega), h.cf h0 (by omega)]; rfl
  cn _ _ := by
    rw [ps_full I n ps (h.ps hn)]
    rcases Nat.eq_zero_or_pos n with rfl | h0
    · exact cnNext_zero I _ _ _ _ _
    · rw [h.ad h0 (by omega), h.cf h0 (by omega)]; rfl
  ps _ := fun b c hb => absurd hb (by omega)
  out h11 := by
    intro p b c hb
    have : n + 1 = 11 := by omega
    rw [if_pos this] at hb
    omega

/-- The last point, which does nothing. -/
theorem inv_last {ring ad cf cn ps out} (h : Inv I 11 4 ring ad cf cn ps out) : Inv I 12 0 ring ad cf cn ps out where
  ring h := absurd h (by omega)
  ad _ h := absurd h (by omega)
  cf _ h := absurd h (by omega)
  cn _ h := absurd h (by omega)
  ps h := absurd h (by omega)
  out _ := by simpa using h.out le_rfl

end Cert.KernelIdeal.Val

end
-- ==== Proof.Hand.Runs.lean ====
module

public import proofs.«01_k».proof.Proof.Hand.Tiles

@[expose] public section

set_option maxRecDepth 16384

noncomputable section

namespace Cert.KernelIdeal.Val

open Cert.KernelIdeal Cert.KernelIdeal.Gen
open Cert.KernelIdeal.Hand (xM outM ringM adM cfM cnM psM stM Bf pt off22_eq off23_eq off25_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (Pipeline.UD sig nD τ) ℕ

variable (I : Inp)

/-! ## Which branch a grid point takes -/

/-- The test of the routing branch, as the body computes it. -/
abbrev cond6 (i : grid0.Coords) : BitVec 1 :=
  Scalar.cmpi .ne (Scalar.extui (Scalar.andi (Scalar.cmpi .sle (BitVec.ofNat 32 (i 0).val) 10#32) (Scalar.cmpi .eq (BitVec.ofNat 32 (i 1).val) 4#32))) 0#32

/-- The seven tests are decided by the node and the row block. -/
theorem conds : ∀ i : grid0.Coords,
    (k0_cond1 i = 1#1 ↔ (i 0).val = 0 ∧ (i 1).val < 4) ∧ (k0_cond2 i = 1#1 ↔ (i 0).val = 1 ∧ (i 1).val < 4)
    ∧ (k0_cond3 i = 1#1 ↔ (i 0).val = 2 ∧ (i 1).val < 4) ∧ (k0_cond4 i = 1#1 ↔ (i 0).val = 3 ∧ (i 1).val < 4)
    ∧ (k0_cond5 i = 1#1 ↔ 4 ≤ (i 0).val ∧ (i 0).val ≤ 10 ∧ (i 1).val < 4) ∧ (cond6 i = 1#1 ↔ (i 0).val ≤ 10 ∧ (i 1).val = 4)
    ∧ (k0_cond7 i = 1#1 ↔ (i 0).val = 11 ∧ (i 1).val < 4) := by decide +kernel

theorem off24_eq : ∀ i : grid0.Coords, 4 ≤ (i 0).val → (i 0).val ≤ 10 → k0_off24 i = ![(i 0).val - 1, 0, 0] := by decide +kernel

/-- The loads of the general point stay inside their buffers. -/
theorem off22_in (i : grid0.Coords) (h : k0_cond5 i = 1#1) (o : Fin 4) (r : Fin 2) :
    ∀ a, k0_off22 i (BitVec.ofNat 32 (o.val + 1)) (BitVec.ofNat 32 (16 * r.val)) a + S1x16x1.size a ≤ S12x128x1.size a := by
  rw [Nat.add_comm]; exact k0_off22_inb i h o r
theorem off23_in (i : grid0.Coords) (h : k0_cond5 i = 1#1) (o : Fin 4) (r : Fin 2) :
    ∀ a, k0_off23 i (BitVec.ofNat 32 (o.val + 1)) (BitVec.ofNat 32 (16 * r.val)) a + S1x196x16x192.size a ≤ S4x196x128x192.size a := by
  rw [Nat.add_comm]; exact k0_off23_inb i h o r

/-- Every grid point is of one of eight kinds. -/
theorem kinds (i : grid0.Coords) :
    ((i 0).val = 0 ∧ (i 1).val < 4) ∨ ((i 0).val = 1 ∧ (i 1).val < 4) ∨ ((i 0).val = 2 ∧ (i 1).val < 4) ∨ ((i 0).val = 3 ∧ (i 1).val < 4)
    ∨ (4 ≤ (i 0).val ∧ (i 0).val ≤ 10 ∧ (i 1).val < 4) ∨ ((i 0).val ≤ 10 ∧ (i 1).val = 4) ∨ ((i 0).val = 11 ∧ (i 1).val < 4)
    ∨ ((i 0).val = 11 ∧ (i 1).val = 4) := by
  have h0 : (i 0).val < 12 := (i 0).2
  have h1 : (i 1).val < 5 := (i 1).2
  omega

/-- The buffers the body carries, at contents the invariant holds of before point `(n, s)`. -/
def Carried (c : Dev nD) (n s : ℕ) : sProp 𝕄 :=
  iprop(∃ g0 g1 g2 g3 g4 fo, ⌜Inv I n s (ringM.view.read (Elt Ideal) g0) (adM.view.read (Elt Ideal) g1) (cfM.view.read (Elt Ideal) g2)
      (cnM.view.read (Elt Ideal) g3) (psM.view.read (Elt Ideal) g4) (outM.view.read (Elt Ideal) fo)⌝
    ∗ pt c ringM g0 ∗ pt c adM g1 ∗ pt c cfM g2 ∗ pt c cnM g3 ∗ pt c psM g4 ∗ pt c outM fo)

/-- The row block after `s`, and the node it belongs to. -/
def nxtN (n s : ℕ) : ℕ := if s = 4 then n + 1 else n
def nxtS (s : ℕ) : ℕ := if s = 4 then 0 else s + 1

set_option maxHeartbeats 2000000 in
/-- The body moves the invariant from a grid point to the next. -/
theorem body_val (c : Dev nD) (i : grid0.Coords)
    (M0 : Memref sig .tc .vmem S10x192x192 .f32) (w0 : M0.IsWhole) (M1 : Memref sig .tc .vmem S192x64 .f32) (w1 : M1.IsWhole) (M2 : Memref sig .tc .vmem S64x12 .f32) (w2 : M2.IsWhole) (M3 : Memref sig .tc .vmem S1x12 .f32) (w3 : M3.IsWhole) (M4 : Memref sig .tc .vmem S1x12 .f32) (w4 : M4.IsWhole) (M5 : Memref sig .tc .vmem S1x12 .f32) (w5 : M5.IsWhole) (M6 : Memref sig .tc .vmem S1x12 .f32) (w6 : M6.IsWhole)
    (fx : Bf (F := Ideal) c xM) (hx : xM.view.read (Elt Ideal) fx = I.x) (W : Waits sig Unit) (Q : PUnit → sProp 𝕄) :
    iprop(owns (c : Thread nD τ) M0 fullShare I.wt ∗ owns (c : Thread nD τ) M1 fullShare I.P ∗ owns (c : Thread nD τ) M2 fullShare I.E ∗ owns (c : Thread nD τ) M3 fullShare I.mean ∗ owns (c : Thread nD τ) M4 fullShare I.var ∗ owns (c : Thread nD τ) M5 fullShare I.gamma ∗ owns (c : Thread nD τ) M6 fullShare I.beta
      ∗ Carried I c (i 0).val (i 1).val ∗ (∃ f, pt c stM f)
      ∗ semVal ((c : Thread nD τ), SemLoc.dma 7) 0 ∗ pt c xM fx ∗ owes (c : Thread nD τ) 0 W
      ∗ (iprop(owns (c : Thread nD τ) M0 fullShare I.wt ∗ owns (c : Thread nD τ) M1 fullShare I.P ∗ owns (c : Thread nD τ) M2 fullShare I.E ∗ owns (c : Thread nD τ) M3 fullShare I.mean ∗ owns (c : Thread nD τ) M4 fullShare I.var ∗ owns (c : Thread nD τ) M5 fullShare I.gamma ∗ owns (c : Thread nD τ) M6 fullShare I.beta
            ∗ Carried I c (nxtN (i 0).val (i 1).val) (nxtS (i 1).val) ∗ (∃ f, pt c stM f)
            ∗ semVal ((c : Thread nD τ), SemLoc.dma 7) 0 ∗ pt c xM fx ∗ ∃ W', owes (c : Thread nD τ) 0 W') -∗ Q ⟨⟩))
    ⊢ wp frame (wpE (defs₀ (F := Ideal)) Variants.none c none) Set.univ
        (cc0__mega_body i xM (Memref.isWhole_whole _) M0 w0 M1 w1 M2 w2 M3 w3 M4 w4 M5 w5 M6 w6 outM (Memref.isWhole_whole _)
          ringM (Memref.isWhole_whole _) adM (Memref.isWhole_whole _) cfM (Memref.isWhole_whole _) cnM (Memref.isWhole_whole _)
          psM (Memref.isWhole_whole _) stM (Memref.isWhole_whole _) cc0_scratch6) Q := by
  simp only [cc0__mega_body_eq_skeleton]; unfold cc0__mega_body_skel
  unfold owns Carried
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%g0, %g1, %g2, %g3, %g4, %fo, %hI, G0, G1, G2, G3, G4, Ho⟩, ⟨%g5, G5⟩, Hd, Hx, HO, Hk⟩
  obtain ⟨h1, h2, h3, h4, h5, h6, h7⟩ := conds i
  have hk := kinds i
  rcases hk with hk | hk | hk | hk | hk | hk | hk | hk
  all_goals
    first | have hc1 := h1.mpr (by omega) | have hc1 := mt h1.mp (by omega)
    first | have hc2 := h2.mpr (by omega) | have hc2 := mt h2.mp (by omega)
    first | have hc3 := h3.mpr (by omega) | have hc3 := mt h3.mp (by omega)
    first | have hc4 := h4.mpr (by omega) | have hc4 := mt h4.mp (by omega)
    first | have hc5 := h5.mpr (by omega) | have hc5 := mt h5.mp (by omega)
    first | have hc6 := h6.mpr (by omega) | have hc6 := mt h6.mp (by omega)
    first | have hc7 := h7.mpr (by omega) | have hc7 := mt h7.mp (by omega)
    dsimp only [cond6] at hc6
    clear h1 h2 h3 h4 h5 h6 h7
    sl_exec
    sl_unfold_run_names
    sl_step
    iapply Hk
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists f6; isplitr; · ipureintro; exact e6
      iexact H6
    isplitr [G5 Hd Hx HO]
    rotate_left
    · isplitl [G5]; · iexists _; iexact G5
      isplitl [Hd]; · iexact Hd
      isplitl [Hx]; · iexact Hx
      iexists _; iexact HO
    iexists _, _, _, _, _, _
    isplitr [G0 G1 G2 G3 G4 Ho]
    rotate_left
    · isplitl [G0]; · iexact G0
      isplitl [G1]; · iexact G1
      isplitl [G2]; · iexact G2
      isplitl [G3]; · iexact G3
      isplitl [G4]; · iexact G4
      iexact Ho
    ipureintro
  · -- the first node: its feature comes in by transfers
    obtain ⟨hn, hs⟩ := hk
    rw [show nxtN (i 0).val (i 1).val = 0 by unfold nxtN; rw [if_neg (by omega), hn], show nxtS (i 1).val = (i 1).val + 1 from if_neg (by omega)]
    rw [hn] at hI
    exact inv_tile I 0 _ (by omega) hs g0 g4 hI _ _ (k0_off2_eq i 1) (k0_off2_eq i 0) _ _ (k0_off3_eq i 1) (k0_off3_eq i 0) _ _
      (x_ld I _ fx hx _ _ _ 1 (k0_off1_eq i 1) _) (x_ld I _ fx hx _ _ _ 0 (k0_off1_eq i 0) _)
  · obtain ⟨hn, hs⟩ := hk
    rw [show nxtN (i 0).val (i 1).val = 1 by unfold nxtN; rw [if_neg (by omega), hn], show nxtS (i 1).val = (i 1).val + 1 from if_neg (by omega)]
    rw [hn] at hI
    have hr := hI.ring (by omega)
    have hc := hI.cn (by omega) (by omega)
    refine inv_tile I 1 _ (by omega) hs g0 g4 hI _ _ (k0_off6_eq i 1) (k0_off6_eq i 0) _ _ (k0_off7_eq i 1) (k0_off7_eq i 0) _ _
      (ft_feat I 1 le_rfl (by omega) _ _ _ (fun p b d => (a1_apply _ p b d).trans (agg_one _ p _ d _
          (tm_ld I 1 _ (by omega) 0 (by decide) 1 g0 g3 hr hc hs _ _ (k0_off4_eq i 1) (k0_off5_eq i 1) p b d).symm).symm) (wt_ld I M0 f0 e0 _ 1 (by omega) rfl))
      (ft_feat I 1 le_rfl (by omega) _ _ _ (fun p b d => (a1_apply _ p b d).trans (agg_one _ p _ d _
          (tm_ld I 1 _ (by omega) 0 (by decide) 0 g0 g3 hr hc hs _ _ (k0_off4_eq i 0) (k0_off5_eq i 0) p b d).symm).symm) (wt_ld I M0 f0 e0 _ 1 (by omega) rfl))
  · obtain ⟨hn, hs⟩ := hk
    rw [show nxtN (i 0).val (i 1).val = 2 by unfold nxtN; rw [if_neg (by omega), hn], show nxtS (i 1).val = (i 1).val + 1 from if_neg (by omega)]
    rw [hn] at hI
    have hr := hI.ring (by omega)
    have hc := hI.cn (by omega) (by omega)
    refine inv_tile I 2 _ (by omega) hs g0 g4 hI _ _ (k0_off12_eq i 1) (k0_off12_eq i 0) _ _ (k0_off13_eq i 1) (k0_off13_eq i 0) _ _
      (ft_feat I 2 (by omega) (by omega) _ _ _ (fun p b d => (a2_apply _ _ p b d).trans (agg_two _ p _ d _ _
          (tm_ld I 2 _ (by omega) 0 (by decide) 1 g0 g3 hr hc hs _ _ (k0_off10_eq i 1) (k0_off11_eq i 1) p b d).symm
          (tm_ld I 2 _ (by omega) 1 (by decide) 1 g0 g3 hr hc hs _ _ (k0_off8_eq i 1) (k0_off9_eq i 1) p b d).symm).symm) (wt_ld I M0 f0 e0 _ 2 (by omega) rfl))
      (ft_feat I 2 (by omega) (by omega) _ _ _ (fun p b d => (a2_apply _ _ p b d).trans (agg_two _ p _ d _ _
          (tm_ld I 2 _ (by omega) 0 (by decide) 0 g0 g3 hr hc hs _ _ (k0_off10_eq i 0) (k0_off11_eq i 0) p b d).symm
          (tm_ld I 2 _ (by omega) 1 (by decide) 0 g0 g3 hr hc hs _ _ (k0_off8_eq i 0) (k0_off9_eq i 0) p b d).symm).symm) (wt_ld I M0 f0 e0 _ 2 (by omega) rfl))
  · obtain ⟨hn, hs⟩ := hk
    rw [show nxtN (i 0).val (i 1).val = 3 by unfold nxtN; rw [if_neg (by omega), hn], show nxtS (i 1).val = (i 1).val + 1 from if_neg (by omega)]
    rw [hn] at hI
    have hr := hI.ring (by omega)
    have hc := hI.cn (by omega) (by omega)
    refine inv_tile I 3 _ (by omega) hs g0 g4 hI _ _ (k0_off20_eq i 1) (k0_off20_eq i 0) _ _ (k0_off21_eq i 1) (k0_off21_eq i 0) _ _
      (ft_feat I 3 (by omega) (by omega) _ _ _ (fun p b d => (a3_apply _ _ _ p b d).trans (agg_three _ p _ d _ _ _
          (tm_ld I 3 _ (by omega) 0 (by decide) 1 g0 g3 hr hc hs _ _ (k0_off18_eq i 1) (k0_off19_eq i 1) p b d).symm
          (tm_ld I 3 _ (by omega) 1 (by decide) 1 g0 g3 hr hc hs _ _ (k0_off16_eq i 1) (k0_off17_eq i 1) p b d).symm
          (tm_ld I 3 _ (by omega) 2 (by decide) 1 g0 g3 hr hc hs _ _ (k0_off14_eq i 1) (k0_off15_eq i 1) p b d).symm).symm) (wt_ld I M0 f0 e0 _ 3 (by omega) rfl))
      (ft_feat I 3 (by omega) (by omega) _ _ _ (fun p b d => (a3_apply _ _ _ p b d).trans (agg_three _ p _ d _ _ _
          (tm_ld I 3 _ (by omega) 0 (by decide) 0 g0 g3 hr hc hs _ _ (k0_off18_eq i 0) (k0_off19_eq i 0) p b d).symm
          (tm_ld I 3 _ (by omega) 1 (by decide) 0 g0 g3 hr hc hs _ _ (k0_off16_eq i 0) (k0_off17_eq i 0) p b d).symm
          (tm_ld I 3 _ (by omega) 2 (by decide) 0 g0 g3 hr hc hs _ _ (k0_off14_eq i 0) (k0_off15_eq i 0) p b d).symm).symm) (wt_ld I M0 f0 e0 _ 3 (by omega) rfl))
  · obtain ⟨hn, hn', hs⟩ := hk
    rw [show nxtN (i 0).val (i 1).val = (i 0).val by unfold nxtN; rw [if_neg (by omega)], show nxtS (i 1).val = (i 1).val + 1 from if_neg (by omega)]
    have hr := hI.ring (by omega)
    have hc := hI.cn (by omega) (by omega)
    have hT : ∀ r : Fin 2, ∀ (p : Fin 196) (b : Fin 16) (d : Fin 192), _ := fun r p b d => (agg_terms (i 0).val (K I (i 0).val) p (row (i 1).val r b) d _ fun o =>
      (tm_ld I (i 0).val _ (by omega) o (by omega) r g0 g3 hr hc hs (off22_in i hc5 o r) (off23_in i hc5 o r) (off22_eq i o r) (off23_eq i o r) p b d).symm).symm
    refine inv_tile I _ _ (by omega) hs g0 g4 hI _ _ (off25_eq i 1) (off25_eq i 0) _ _ (k0_off26_eq i 1) (k0_off26_eq i 0) _ _
      (ft_feat I _ (by omega) (by omega) _ _ _ (fun p b d => (a4_apply _ _ _ _ p b d).trans (hT 1 p b d)) (wt_ld I M0 f0 e0 _ _ (by omega) (off24_eq i hn hn')))
      (ft_feat I _ (by omega) (by omega) _ _ _ (fun p b d => (a4_apply _ _ _ _ p b d).trans (hT 0 p b d)) (wt_ld I M0 f0 e0 _ _ (by omega) (off24_eq i hn hn')))
  · obtain ⟨hn, hs⟩ := hk
    rw [show nxtN (i 0).val (i 1).val = (i 0).val + 1 from if_pos hs, show nxtS (i 1).val = 0 from if_pos hs]
    rw [hs] at hI
    have r1 := (View.readAt_full M1.view f1 inb_S192x64_S192x64_0_0).trans e1
    have r2 := (View.readAt_full M2.view f2 inb_S64x12_S64x12_0_0).trans e2
    have r3 := (View.readAt_full M3.view f3 inb_S1x12_S1x12_0_0).trans e3
    have r4 := (View.readAt_full M4.view f4 inb_S1x12_S1x12_0_0).trans e4
    have r5 := (View.readAt_full M5.view f5 inb_S1x12_S1x12_0_0).trans e5
    have r6 := (View.readAt_full M6.view f6 inb_S1x12_S1x12_0_0).trans e6
    have q4 := View.readAt_full psM.view g4 inb_S128x192_S128x192_0_0
    have q1 := View.readAt_full adM.view g1 inb_S128x12_S128x12_0_0
    have q2 := View.readAt_full cfM.view g2 inb_S12x128x12_S12x128x12_0_0_0
    rw [r1, r2, r3, r4, r5, r6, q4, q1, q2]
    rw [View.read_writes_full, View.read_writes_full, View.read_writes_full]
    exact inv_route I _ hn hI
  · obtain ⟨hn, hs⟩ := hk
    rw [show nxtN (i 0).val (i 1).val = 11 by unfold nxtN; rw [if_neg (by omega), hn], show nxtS (i 1).val = (i 1).val + 1 from if_neg (by omega)]
    rw [hn] at hI
    have hr := hI.ring (by omega)
    have hc := hI.cn (by omega) (by omega)
    have hT : ∀ r : Fin 2, ∀ (p : Fin 196) (b : Fin 16) (d : Fin 192), _ := fun r p b d => (agg_rev 11 (K I 11) p (row (i 1).val r b) d _ _ _ _
      (tm_ld I 11 _ le_rfl 0 (by decide) r g0 g3 hr hc hs (k0_off33_inb i hc7 r) (k0_off34_inb i hc7 r) (k0_off33_eq i r) (k0_off34_eq i r) p b d).symm
      (tm_ld I 11 _ le_rfl 1 (by decide) r g0 g3 hr hc hs (k0_off31_inb i hc7 r) (k0_off32_inb i hc7 r) (k0_off31_eq i r) (k0_off32_eq i r) p b d).symm
      (tm_ld I 11 _ le_rfl 2 (by decide) r g0 g3 hr hc hs (k0_off29_inb i hc7 r) (k0_off30_inb i hc7 r) (k0_off29_eq i r) (k0_off30_eq i r) p b d).symm
      (tm_ld I 11 _ le_rfl 3 (by decide) r g0 g3 hr hc hs (k0_off27_inb i hc7 r) (k0_off28_inb i hc7 r) (k0_off27_eq i r) (k0_off28_eq i r) p b d).symm).symm
    exact inv_out I _ hs fo hI (k0_off35_inb i hc7 1) (k0_off35_inb i hc7 0) (k0_off35_eq i 1) (k0_off35_eq i 0) _ _
      (st_ld g5 _ _ _ _ fun p b c => (a4_apply _ _ _ _ p b c).trans (hT 1 p b c)) (st_ld g5 _ _ _ _ fun p b c => (a4_apply _ _ _ _ p b c).trans (hT 0 p b c)) _ _
  · obtain ⟨hn, hs⟩ := hk
    rw [show nxtN (i 0).val (i 1).val = 12 by unfold nxtN; rw [if_pos hs, hn], show nxtS (i 1).val = 0 from if_pos hs]
    rw [hn, hs] at hI
    exact inv_last I hI

end Cert.KernelIdeal.Val

end
-- ==== Proof.Hand.Value.lean ====
module

public import proofs.«01_k».proof.Proof.Hand.Runs
public import Idealize.ShloMosaic.Lib.Pipeline.FrameSuffixV
public import Idealize.ShloMosaic.Lib.Pipeline.ValueKit

@[expose] public section

set_option maxRecDepth 16384

noncomputable section

namespace Cert.KernelIdeal.Val

open Cert.KernelIdeal Cert.KernelIdeal.Gen
open Cert.KernelIdeal.Hand (xM outM ringM adM cfM cnM psM stM Bf pt osem0 ownSemFacts0 H0 R0 H0_sub R0_sub defs₀_row hmain)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The launch's arrays on core `c`. -/
def inp (c : Dev nD) : Inp where
  x := V m c main_v1
  wt := V m c main_v3
  P := V m c main_arg7
  E := V m c main_v4
  mean := V m c main_v5
  var := V m c main_v6
  gamma := V m c main_v7
  beta := V m c main_v8

/-- What the region leaves in its result. -/
def OUT (c : Dev nD) : FVec Ideal S196x128x192 .f32 := fun j => agg 11 (K (inp m c) 11) (j 0) (j 1) (j 2)
/-- What the region leaves in every buffer it writes by transfers. -/
def Gout (c : Dev nD) : (b : Ref sig .tc) → Buf (Elt Ideal) ((c.tc : Thread nD τ).loc b) := Function.update (V m c) main_v9 (OUT m c)

/-! ## Each window stages its whole array -/

theorem idx0 (t : Fin grid0.N) : ∀ a : Fin 3, win0_0.index t a = 0 := fun a => by fin_cases a <;> rfl
/-- Window 0 stages its whole array. -/
theorem blk0 (c : Dev nD) (t : Fin cfg0.N) : iblk m c 0 t = (inp m c).wt := by
  funext y
  refine congrArg (V m c main_v3) (funext fun a => Fin.ext ?_)
  fin_cases a <;> blk_simp [iblk, idx0]
theorem idx1 (t : Fin grid0.N) : ∀ a : Fin 2, win0_1.index t a = 0 := fun a => by fin_cases a <;> rfl
/-- Window 1 stages its whole array. -/
theorem blk1 (c : Dev nD) (t : Fin cfg0.N) : iblk m c 1 t = (inp m c).P := by
  funext y
  refine congrArg (V m c main_arg7) (funext fun a => Fin.ext ?_)
  fin_cases a <;> blk_simp [iblk, idx1]
theorem idx2 (t : Fin grid0.N) : ∀ a : Fin 2, win0_2.index t a = 0 := fun a => by fin_cases a <;> rfl
/-- Window 2 stages its whole array. -/
theorem blk2 (c : Dev nD) (t : Fin cfg0.N) : iblk m c 2 t = (inp m c).E := by
  funext y
  refine congrArg (V m c main_v4) (funext fun a => Fin.ext ?_)
  fin_cases a <;> blk_simp [iblk, idx2]
theorem idx3 (t : Fin grid0.N) : ∀ a : Fin 2, win0_3.index t a = 0 := fun a => by fin_cases a <;> rfl
/-- Window 3 stages its whole array. -/
theorem blk3 (c : Dev nD) (t : Fin cfg0.N) : iblk m c 3 t = (inp m c).mean := by
  funext y
  refine congrArg (V m c main_v5) (funext fun a => Fin.ext ?_)
  fin_cases a <;> blk_simp [iblk, idx3]
theorem idx4 (t : Fin grid0.N) : ∀ a : Fin 2, win0_4.index t a = 0 := fun a => by fin_cases a <;> rfl
/-- Window 4 stages its whole array. -/
theorem blk4 (c : Dev nD) (t : Fin cfg0.N) : iblk m c 4 t = (inp m c).var := by
  funext y
  refine congrArg (V m c main_v6) (funext fun a => Fin.ext ?_)
  fin_cases a <;> blk_simp [iblk, idx4]
theorem idx5 (t : Fin grid0.N) : ∀ a : Fin 2, win0_5.index t a = 0 := fun a => by fin_cases a <;> rfl
/-- Window 5 stages its whole array. -/
theorem blk5 (c : Dev nD) (t : Fin cfg0.N) : iblk m c 5 t = (inp m c).gamma := by
  funext y
  refine congrArg (V m c main_v7) (funext fun a => Fin.ext ?_)
  fin_cases a <;> blk_simp [iblk, idx5]
theorem idx6 (t : Fin grid0.N) : ∀ a : Fin 2, win0_6.index t a = 0 := fun a => by fin_cases a <;> rfl
/-- Window 6 stages its whole array. -/
theorem blk6 (c : Dev nD) (t : Fin cfg0.N) : iblk m c 6 t = (inp m c).beta := by
  funext y
  refine congrArg (V m c main_v8) (funext fun a => Fin.ext ?_)
  fin_cases a <;> blk_simp [iblk, idx6]

/-! ## The grid's points -/

theorem coord0 : ∀ t : Fin grid0.N, ((grid0.coords t) 0).val = t.val / 5 := by decide
theorem coord1 : ∀ t : Fin grid0.N, ((grid0.coords t) 1).val = t.val % 5 := by decide
theorem nxt_n : ∀ t : Fin grid0.N, nxtN (t.val / 5) (t.val % 5) = (t.val + 1) / 5 := by decide
theorem nxt_s : ∀ t : Fin grid0.N, nxtS (t.val % 5) = (t.val + 1) % 5 := by decide

/-! ## The launch -/

/-- The region's invariant: the scratch arrays hold what the spec says, the input array in memory is whole. -/
def Phi (c : Dev nD) (k : ℕ) : sProp 𝕄 :=
  iprop(Carried (inp m c) c (k / 5) (k % 5) ∗ (∃ f, pt c stM f) ∗ semVal ((c : Thread nD τ), SemLoc.dma 7) 0 ∗ pt c xM (V m c main_v1))

/-- The proof data of the one pipeline on core `c`. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ t := Phi m c t.val
  q _ := fullShare
  owed _ := 0

theorem before_0 (c : Dev nD) (t : Fin cfg0.N) (d) : (dats m 0 c).before 0 t d = (inp m c).wt :=
  ((dats m 0 c).before_in_eq_fetched 0 rfl (fun _ => rfl) (fun _ _ _ => rfl) (fun _ => rfl) t d).trans ((show _ = iblk m c 0 t from rfl).trans (blk0 m c t))
theorem after_0 (c : Dev nD) (t : Fin cfg0.N) : (dats m 0 c).after 0 t = (inp m c).wt := blk0 m c t
theorem before_1 (c : Dev nD) (t : Fin cfg0.N) (d) : (dats m 0 c).before 1 t d = (inp m c).P :=
  ((dats m 0 c).before_in_eq_fetched 1 rfl (fun _ => rfl) (fun _ _ _ => rfl) (fun _ => rfl) t d).trans ((show _ = iblk m c 1 t from rfl).trans (blk1 m c t))
theorem after_1 (c : Dev nD) (t : Fin cfg0.N) : (dats m 0 c).after 1 t = (inp m c).P := blk1 m c t
theorem before_2 (c : Dev nD) (t : Fin cfg0.N) (d) : (dats m 0 c).before 2 t d = (inp m c).E :=
  ((dats m 0 c).before_in_eq_fetched 2 rfl (fun _ => rfl) (fun _ _ _ => rfl) (fun _ => rfl) t d).trans ((show _ = iblk m c 2 t from rfl).trans (blk2 m c t))
theorem after_2 (c : Dev nD) (t : Fin cfg0.N) : (dats m 0 c).after 2 t = (inp m c).E := blk2 m c t
theorem before_3 (c : Dev nD) (t : Fin cfg0.N) (d) : (dats m 0 c).before 3 t d = (inp m c).mean :=
  ((dats m 0 c).before_in_eq_fetched 3 rfl (fun _ => rfl) (fun _ _ _ => rfl) (fun _ => rfl) t d).trans ((show _ = iblk m c 3 t from rfl).trans (blk3 m c t))
theorem after_3 (c : Dev nD) (t : Fin cfg0.N) : (dats m 0 c).after 3 t = (inp m c).mean := blk3 m c t
theorem before_4 (c : Dev nD) (t : Fin cfg0.N) (d) : (dats m 0 c).before 4 t d = (inp m c).var :=
  ((dats m 0 c).before_in_eq_fetched 4 rfl (fun _ => rfl) (fun _ _ _ => rfl) (fun _ => rfl) t d).trans ((show _ = iblk m c 4 t from rfl).trans (blk4 m c t))
theorem after_4 (c : Dev nD) (t : Fin cfg0.N) : (dats m 0 c).after 4 t = (inp m c).var := blk4 m c t
theorem before_5 (c : Dev nD) (t : Fin cfg0.N) (d) : (dats m 0 c).before 5 t d = (inp m c).gamma :=
  ((dats m 0 c).before_in_eq_fetched 5 rfl (fun _ => rfl) (fun _ _ _ => rfl) (fun _ => rfl) t d).trans ((show _ = iblk m c 5 t from rfl).trans (blk5 m c t))
theorem after_5 (c : Dev nD) (t : Fin cfg0.N) : (dats m 0 c).after 5 t = (inp m c).gamma := blk5 m c t
theorem before_6 (c : Dev nD) (t : Fin cfg0.N) (d) : (dats m 0 c).before 6 t d = (inp m c).beta :=
  ((dats m 0 c).before_in_eq_fetched 6 rfl (fun _ => rfl) (fun _ _ _ => rfl) (fun _ => rfl) t d).trans ((show _ = iblk m c 6 t from rfl).trans (blk6 m c t))
theorem after_6 (c : Dev nD) (t : Fin cfg0.N) : (dats m 0 c).after 6 t = (inp m c).beta := blk6 m c t

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
    ⊢ wp frame (wpE (defs₀ (F := Ideal)) Variants.none c none) Set.univ (bodyAt0 t) (fun _ =>
      iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))) := by
  simp only [before_0, after_0, before_1, after_1, before_2, after_2, before_3, after_3, before_4, after_4, before_5, after_5, before_6, after_6]
  rw [show (dats m 0 c).Φ t.castSucc = Phi m c t.val from rfl, show (dats m 0 c).Φ t.succ = Phi m c (t.val + 1) from rfl]
  unfold Phi Dat.owesAt Pipeline.owesWithin
  rw [show (dats m 0 c).owed t.castSucc = 0 from rfl, show (dats m 0 c).owed t.succ = 0 from rfl]
  rw [← nxt_n t, ← nxt_s t, ← coord0 t, ← coord1 t]
  unfold bodyAt0
  iintro ⟨⟨HC, Hd, Hs, Hx⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (body_val (inp m c) c _ _ _ _ _ _ _ _ _ _ _ _ _ _ _ (V m c main_v1) rfl W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HC]; · iexact HC
  isplitl [Hd]; · iexact Hd
  isplitl [Hs]; · iexact Hs
  isplitl [Hx]; · iexact Hx
  isplitl [HW]; · iexact HW
  iintro ⟨H0, H1, H2, H3, H4, H5, H6, HC, Hd, Hs, Hx, ⟨%W', HW⟩⟩
  isplitl [HC Hd Hs Hx]
  · isplitl [HC]; · iexact HC
    isplitl [Hd]; · iexact Hd
    isplitl [Hs]; · iexact Hs
    iexact Hx
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region, and what the region hands back, spelled out. -/
theorem PhiV_eq (c : Dev nD) (G : (c : Dev nD) → (b : Ref sig .tc) → Buf (Elt Ideal) ((c.tc : Thread nD τ).loc b)) :
    (Pipeline.ΦDRV osem0 spec0 H0 R0 (V m) G c : sProp 𝕄)
      = iprop(iprop((∃ f, pt c ringM f) ∗ (∃ f, pt c adM f) ∗ (∃ f, pt c cfM f) ∗ (∃ f, pt c cnM f) ∗ (∃ f, pt c psM f) ∗ (∃ f, pt c stM f)) ∗ semVal ((c : Thread nD τ), SemLoc.dma 7) 0 ∗ pt c xM (V m c main_v1) ∗ pt c outM (G c main_v9)) := by
  unfold Pipeline.ΦDRV
  rw [scopedRest0_eq, Pipeline.ownSems0_eq_of_list c osem0 [0] (by decide) (by decide)]
  rw [BI.bigSep_eq_bigSepL_of_eq [main_v1] (by decide) (by decide), BI.bigSep_eq_bigSepL_of_eq [main_v9] (by decide) (by decide)]
  simp only [BI.bigSepL, owns_whole]

/-- Nothing is asked of the scratch arrays before the first point. -/
theorem inv_init (I : Inp) (ring) (ad) (cf) (cn) (ps) (out) : Inv I 0 0 ring ad cf cn ps out := by
  refine ⟨fun _ k p b d h _ => ?_, fun h => ?_, fun h => ?_, fun h => ?_, fun _ b d h => ?_, fun h => ?_⟩
  · simp at h
  · omega
  · omega
  · omega
  · omega
  · omega

theorem phi_in (c : Dev nD) : (Pipeline.ΦDRV osem0 spec0 H0 R0 (V m) (V m) c : sProp 𝕄) ⊢ (dats m 0 c).Φ 0 := by
  rw [PhiV_eq, show (dats m 0 c).Φ 0 = Phi m c 0 from rfl]
  unfold Phi Carried
  iintro ⟨⟨⟨%g0, G0⟩, ⟨%g1, G1⟩, ⟨%g2, G2⟩, ⟨%g3, G3⟩, ⟨%g4, G4⟩, Hd⟩, Hs, Hx, Ho⟩
  isplitl [G0 G1 G2 G3 G4 Ho]
  · iexists g0; iexists g1; iexists g2; iexists g3; iexists g4; iexists (V m c main_v9)
    isplitr; · ipureintro; exact inv_init _ _ _ _ _ _ _
    isplitl [G0]; · iexact G0
    isplitl [G1]; · iexact G1
    isplitl [G2]; · iexact G2
    isplitl [G3]; · iexact G3
    isplitl [G4]; · iexact G4
    iexact Ho
  isplitl [Hd]; · iexact Hd
  isplitl [Hs]; · iexact Hs
  iexact Hx

theorem phi_out (c : Dev nD) : (dats m 0 c).Φ (Fin.last cfg0.N) ⊢ (Pipeline.ΦDRV osem0 spec0 H0 R0 (V m) (Gout m) c : sProp 𝕄) := by
  rw [PhiV_eq, show (dats m 0 c).Φ (Fin.last cfg0.N) = Phi m c 60 from rfl]
  unfold Phi Carried
  iintro ⟨⟨%g0, %g1, %g2, %g3, %g4, %fo, %hI, G0, G1, G2, G3, G4, Ho⟩, Hd, Hs, Hx⟩
  have ho : Gout m c main_v9 = fo := by
    have h := hI.out (by decide)
    unfold Gout
    rw [Function.update_self]
    funext j
    exact ((congrArg fo (eq_ix3 j)).trans (h (j 0) (j 1) (j 2) (by have h1 : (j 1).val < 128 := (j 1).isLt; show (j 1).val / 32 < 4; omega))).symm
  rw [ho]
  isplitl [G0 G1 G2 G3 G4 Hd]
  · isplitl [G0]; · iexists g0; iexact G0
    isplitl [G1]; · iexists g1; iexact G1
    isplitl [G2]; · iexists g2; iexact G2
    isplitl [G3]; · iexists g3; iexact G3
    isplitl [G4]; · iexists g4; iexact G4
    iexact Hd
  isplitl [Hs]; · iexact Hs
  isplitl [Hx]; · iexact Hx
  iexact Ho

/-- What the kernel leaves in its result. -/
def kout (c : Dev nD) : FVec Ideal S128x192x14x14 .f32 :=
  transpose S128x192x14x14 [2, 3, 0, 1] (shapeCast S14x14x128x192 (OUT m c) (by decide)) (by decide)

set_option backward.isDefEq.respectTransparency.types false in
theorem run_main : θ_run defs (onTc (τ := τ) (main (F := Ideal))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (List.flatten [hostOps1]) (Pipeline.withArrays spec0 c (Pipeline.withR (V0 m c) R0 c (Gout m c)) fun w => (dats m 0 c).arrAt w cfg0.N) (Proc.devRef .tc b))
      ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := Gout m)
    (hmain := hmain m Variants.none) (hA := fun _ _ => rfl) (hin := fun c => phi_in m c) (hout := fun c => phi_out m c) (Q' := _) (hQ' := fun _ h => h)

theorem kout_eq (c : Dev nD) (W : Valuation τ sig (Elt Ideal)) (hW : W (Proc.devRef .tc main_v9) = OUT m c) :
    StableHlo.after (List.flatten [hostOps1]) W (Proc.devRef .tc main_v11) = kout m c := by
  show StableHlo.after [_, _] W (Proc.devRef .tc main_v11) = _
  after_results
  rw [hW]
  rfl

theorem v11_eq (c : Dev nD) : StableHlo.after (List.flatten [hostOps1]) (Pipeline.withArrays spec0 c (Pipeline.withR (V0 m c) R0 c (Gout m c)) fun w => (dats m 0 c).arrAt w cfg0.N) (Proc.devRef .tc main_v11) = kout m c :=
  kout_eq m c _ ((Pipeline.withArrays_of_ne spec0 c _ _ main_v9 (by decide)).trans ((Pipeline.withR_of_mem _ _ _ _ main_v9 (by decide)).trans (Function.update_self ..)))

/-- A buffer the region and the lines after it leave alone ends as launched. -/
theorem kept (c : Dev nD) (b : Ref sig .tc) (h1 : ∀ w, Pipeline.arrRef spec0 w ≠ b) (h2 : b ∉ R0) (h3 : b ≠ main_v10) (h4 : b ≠ main_v11) :
    StableHlo.after (List.flatten [hostOps1]) (Pipeline.withArrays spec0 c (Pipeline.withR (V0 m c) R0 c (Gout m c)) fun w => (dats m 0 c).arrAt w cfg0.N) (Proc.devRef .tc b) = V m c b := by
  refine (StableHlo.after_of_forall_not_mem _ _ ?_).trans ((Pipeline.withArrays_of_ne spec0 c _ _ b h1).trans (Pipeline.withR_of_not_mem _ _ _ _ b h2))
  refine List.forall_iff_forall_mem.mp ?_
  simp only [hostOps1, List.flatten_cons, List.flatten_nil, List.append_nil, List.Forall, StableHlo.unary_writes, StableHlo.reshape_writes, Finset.mem_singleton]
  exact ⟨StableHlo.devRef_ne_of_ne h3, StableHlo.devRef_ne_of_ne h4⟩

/-- Every run of the kernel ends with `kout` in its result, its arguments as launched. -/
theorem kernel_run : θ_run defs (onTc (τ := τ) (main (F := Ideal))) ⟨m, fun _ => 0, ρ⟩ (fun r => ∀ c : Dev nD,
      r.2.mem ((c.tc : Thread nD τ).loc main_v11) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).2 main_v11 (Pipeline.mem_restRefs_of main_v11 (by decide) (by decide))).trans (v11_eq m c),
    ((h.1 c).2 main_arg0 (Pipeline.mem_restRefs_of main_arg0 (by decide) (by decide))).trans ((kept m c main_arg0 (by decide) (by decide) (by decide) (by decide)).trans (V_main_arg0 m c)),
    ((h.1 c).2 main_arg1 (Pipeline.mem_restRefs_of main_arg1 (by decide) (by decide))).trans ((kept m c main_arg1 (by decide) (by decide) (by decide) (by decide)).trans (V_main_arg1 m c)),
    ((h.1 c).2 main_arg2 (Pipeline.mem_restRefs_of main_arg2 (by decide) (by decide))).trans ((kept m c main_arg2 (by decide) (by decide) (by decide) (by decide)).trans (V_main_arg2 m c)),
    ((h.1 c).2 main_arg3 (Pipeline.mem_restRefs_of main_arg3 (by decide) (by decide))).trans ((kept m c main_arg3 (by decide) (by decide) (by decide) (by decide)).trans (V_main_arg3 m c)),
    ((h.1 c).2 main_arg4 (Pipeline.mem_restRefs_of main_arg4 (by decide) (by decide))).trans ((kept m c main_arg4 (by decide) (by decide) (by decide) (by decide)).trans (V_main_arg4 m c)),
    ((h.1 c).2 main_arg5 (Pipeline.mem_restRefs_of main_arg5 (by decide) (by decide))).trans ((kept m c main_arg5 (by decide) (by decide) (by decide) (by decide)).trans (V_main_arg5 m c)),
    ((h.1 c).2 main_arg6 (Pipeline.mem_restRefs_of main_arg6 (by decide) (by decide))).trans ((kept m c main_arg6 (by decide) (by decide) (by decide) (by decide)).trans (V_main_arg6 m c)),
    ((h.1 c).1 1).trans (((dats m 0 c).arrAt_in 1 rfl _).trans (V_main_arg7 m c))⟩) (run_main m ρ)

/-! ## The launch's arrays in terms of the arguments -/

theorem in_x (c : Dev nD) (h w : Fin 14) (b : Fin 128) (d : Fin 192) :
    (inp m c).x (ix3 (⟨h.val * 14 + w.val, by omega⟩ : Fin 196) b d) = m ((c.tc : Thread nD τ).loc main_arg0) (ix4 b d h w) := by
  show V m c main_v1 _ = _
  have he : V m c main_v1 = shapeCast S196x128x192 (transpose S14x14x128x192 [2, 3, 0, 1] (m ((c.tc : Thread nD τ).loc main_arg0)) transposes_S128x192x14x14_S14x14x128x192_2_3_0_1) shapeCasts_S14x14x128x192_S196x128x192 := by
    show StableHlo.after [_, _, _, _, _, _, _, _, _] (fun b => m (c, b)) (Proc.devRef .tc main_v1) = _
    after_results
    try rfl
  rw [he]
  pointwise
theorem in_wt (c : Dev nD) (n : Fin 10) (d e : Fin 192) :
    (inp m c).wt (ix3 n d e) = m ((c.tc : Thread nD τ).loc main_arg6) (ix3 (⟨1 + n.val, by omega⟩ : Fin 12) e d) := by
  show V m c main_v3 _ = _
  have he : V m c main_v3 = transpose S10x192x192 [0, 2, 1] (extractStridedSlice S10x192x192 ![1, 0, 0] (m ((c.tc : Thread nD τ).loc main_arg6)) slices_S12x192x192_S10x192x192_1_0_0) transposes_S10x192x192_S10x192x192_0_2_1 := by
    show StableHlo.after [_, _, _, _, _, _, _, _, _] (fun b => m (c, b)) (Proc.devRef .tc main_v3) = _
    after_results
    try rfl
  rw [he]
  pointwise
theorem in_P (c : Dev nD) : (inp m c).P = m ((c.tc : Thread nD τ).loc main_arg7) := V_main_arg7 m c
theorem in_E (c : Dev nD) (k : Fin 64) (j : Fin 12) :
    (inp m c).E (ix2 k j) = m ((c.tc : Thread nD τ).loc main_arg1) (ix2 j k) := by
  show V m c main_v4 _ = _
  have he : V m c main_v4 = transpose S64x12 [1, 0] (m ((c.tc : Thread nD τ).loc main_arg1)) transposes_S12x64_S64x12_1_0 := by
    show StableHlo.after [_, _, _, _, _, _, _, _, _] (fun b => m (c, b)) (Proc.devRef .tc main_v4) = _
    after_results
    try rfl
  rw [he]
  pointwise
theorem in_mean (c : Dev nD) (j : Fin 12) : (inp m c).mean (ix2 (0 : Fin 1) j) = m ((c.tc : Thread nD τ).loc main_arg4) (ix1 j) := by
  show V m c main_v5 _ = _
  have he : V m c main_v5 = shapeCast S1x12 (m ((c.tc : Thread nD τ).loc main_arg4)) shapeCasts_S12_S1x12 := by
    show StableHlo.after [_, _, _, _, _, _, _, _, _] (fun b => m (c, b)) (Proc.devRef .tc main_v5) = _
    after_results
    try rfl
  rw [he]
  pointwise
theorem in_var (c : Dev nD) (j : Fin 12) : (inp m c).var (ix2 (0 : Fin 1) j) = m ((c.tc : Thread nD τ).loc main_arg5) (ix1 j) := by
  show V m c main_v6 _ = _
  have he : V m c main_v6 = shapeCast S1x12 (m ((c.tc : Thread nD τ).loc main_arg5)) shapeCasts_S12_S1x12 := by
    show StableHlo.after [_, _, _, _, _, _, _, _, _] (fun b => m (c, b)) (Proc.devRef .tc main_v6) = _
    after_results
    try rfl
  rw [he]
  pointwise
theorem in_gamma (c : Dev nD) (j : Fin 12) : (inp m c).gamma (ix2 (0 : Fin 1) j) = m ((c.tc : Thread nD τ).loc main_arg2) (ix1 j) := by
  show V m c main_v7 _ = _
  have he : V m c main_v7 = shapeCast S1x12 (m ((c.tc : Thread nD τ).loc main_arg2)) shapeCasts_S12_S1x12 := by
    show StableHlo.after [_, _, _, _, _, _, _, _, _] (fun b => m (c, b)) (Proc.devRef .tc main_v7) = _
    after_results
    try rfl
  rw [he]
  pointwise
theorem in_beta (c : Dev nD) (j : Fin 12) : (inp m c).beta (ix2 (0 : Fin 1) j) = m ((c.tc : Thread nD τ).loc main_arg3) (ix1 j) := by
  show V m c main_v8 _ = _
  have he : V m c main_v8 = shapeCast S1x12 (m ((c.tc : Thread nD τ).loc main_arg3)) shapeCasts_S12_S1x12 := by
    show StableHlo.after [_, _, _, _, _, _, _, _, _] (fun b => m (c, b)) (Proc.devRef .tc main_v8) = _
    after_results
    try rfl
  rw [he]
  pointwise
theorem kout_apply (c : Dev nD) (b : Fin 128) (d : Fin 192) (h w : Fin 14) :
    kout m c (ix4 b d h w) = agg 11 (K (inp m c) 11) (⟨h.val * 14 + w.val, by omega⟩ : Fin 196) b d := by
  unfold kout
  pointwise [OUT]

end Cert.KernelIdeal.Val

end
-- ==== Proof.Hand.Row.lean ====
module

public import Idealize.ShloMosaic.Lib.SortFacts
public import Idealize.ShloMosaic.Lib.IdealHost

@[expose] public section

noncomputable section

namespace Cert.Row

open Idealize.ShloMosaic

/-! # One batch row of the routing

One node's routing on one batch row, over the extended reals: a row is a function of the twelve lanes. The kernel's
spelling and the reference's are stated beside each other, and shown to agree as far as the next node reads them. -/

/-- The pruning threshold, the guard added to the kept sum, and the pooled pixels' number. -/
def eps : EReal := Ideal.ofBits .f32 0x3C23D70A#32
def tiny : EReal := Ideal.ofBits .f32 0x2B8CBCCC#32

theorem eps_pos : (0 : EReal) < eps := by
  unfold eps
  simp [Ideal.ofBits, Ideal.ieee, -EReal.coe_mul]
theorem tiny_pos : (0 : EReal) < tiny := by
  unfold tiny
  simp [Ideal.ofBits, Ideal.ieee, -EReal.coe_mul]
theorem ninf : Ideal.ofBits .f32 0xFF800000#32 = ⊥ := by
  simp [Ideal.ofBits, Ideal.ieee, -EReal.coe_mul]
theorem pixels : Ideal.ofBits .f32 0x43440000#32 = ((196 : ℝ) : EReal) := by
  simp [Ideal.ofBits, Ideal.ieee, -EReal.coe_mul]; norm_num

/-- Dividing by the pixels' number is multiplying by its reciprocal. -/
theorem div_pixels (x : EReal) : Ideal.div x (Ideal.ofBits .f32 0x43440000#32) = x * ((196⁻¹ : ℝ) : EReal) := by
  rw [pixels, Ideal.div_coe (by norm_num), one_div]

/-! ## Quotients and exponentials that are not negative -/

theorem exp_nonneg (x : EReal) : 0 ≤ Ideal.exp x := by
  induction x using EReal.rec with
  | bot => exact le_refl _
  | top => exact le_top
  | coe r => exact EReal.coe_nonneg.mpr (Real.exp_pos r).le

/-- The reciprocal of a positive number is a number that is neither negative nor infinite. -/
theorem recip_nonneg {x : EReal} (h : 0 < x) : 0 ≤ Ideal.div 1 x := by
  unfold Ideal.div
  rw [if_neg h.ne', one_mul]
  exact EReal.inv_nonneg_of_nonneg h.le
theorem recip_ne_top {x : EReal} (h : 0 < x) : Ideal.div 1 x ≠ ⊤ := by
  unfold Ideal.div
  rw [if_neg h.ne', one_mul]
  induction x using EReal.rec with
  | bot => simp at h
  | top => simp
  | coe r => rw [← EReal.coe_inv]; exact EReal.coe_ne_top _

/-- Zero over a number that is not negative is not positive. -/
theorem zero_div_nonpos (x : EReal) : Ideal.div 0 x ≤ 0 := by
  unfold Ideal.div
  split_ifs with h h'
  · exact absurd h' (lt_irrefl _)
  · exact bot_le
  · rw [zero_mul]

/-! ## The rows -/

/-- The lanes node `n` hands attention to. -/
abbrev Win (n : ℕ) (j : Fin 12) : Prop := n < j.val ∧ j.val ≤ n + 4
/-- The scores on the window, `−∞` off it, and their greatest. -/
def msk (n : ℕ) (v : Fin 12 → EReal) (j : Fin 12) : EReal := if Win n j then v j else ⊥
def mx (n : ℕ) (v : Fin 12 → EReal) : EReal := Finset.univ.fold max ⊥ (msk n v)
/-- Their exponentials below the greatest, and the window's sum of these. -/
def ex (n : ℕ) (v : Fin 12 → EReal) (j : Fin 12) : EReal := Ideal.exp (msk n v j - mx n v)
def tot (n : ℕ) (v : Fin 12 → EReal) : EReal := ∑ x, if Win n x then ex n v x else 0
/-- The attention handed out, as the kernel and as the reference spells it. -/
def sentK (n : ℕ) (v : Fin 12 → EReal) (a : EReal) (j : Fin 12) : EReal := a * Ideal.div (if Win n j then ex n v j else 0) (tot n v)
def sentR (n : ℕ) (v : Fin 12 → EReal) (a : EReal) (j : Fin 12) : EReal := a * (if Win n j then Ideal.div (ex n v j) (tot n v) else 0)
/-- The attention outstanding once `s` is handed out. -/
def got (n : ℕ) (ad s : Fin 12 → EReal) (j : Fin 12) : EReal := (if j.val = n then 0 else ad j) + s j
/-- One where an entry passes the threshold, else zero. -/
def pass (x : EReal) : EReal := if eps < x then 1 else 0
/-- The kernel's mask times its rescaling. -/
def maskK (t : Fin 12 → EReal) (j : Fin 12) : EReal := pass (t j) * Ideal.div 1 (∑ x, t x * pass (t x) + tiny)
/-- The lane of the row's `r`-th greatest entry. -/
def top (t : Fin 12 → EReal) (r : Fin 4) : Fin 12 := sortedFrom (fun k k' => decide (t k' < t k)) (⟨r.val, by omega⟩ : Fin 12)
/-- How many of the four greatest lie at a lane. -/
def hot (t : Fin 12 → EReal) (j : Fin 12) : EReal := ∑ r : Fin 4, if top t r = j then 1 else 0
/-- The reference's mask, its rescaling, and their product. -/
def keep (t : Fin 12 → EReal) (j : Fin 12) : EReal := hot t j * pass (t j)
def scl (t : Fin 12 → EReal) : EReal := Ideal.div 1 (∑ r : Fin 4, t (top t r) * pass (t (top t r)) + tiny)
def maskR (t : Fin 12 → EReal) (j : Fin 12) : EReal := keep t j * scl t

theorem pass_nonneg (x : EReal) : 0 ≤ pass x := by
  unfold pass; split_ifs
  · exact zero_le_one
  · exact le_refl _
theorem pass_of_nonpos {x : EReal} (h : x ≤ 0) : pass x = 0 := if_neg (not_lt.mpr (h.trans eps_pos.le))
theorem mul_pass_nonneg (x : EReal) : 0 ≤ x * pass x := by
  unfold pass; split_ifs with h
  · rw [mul_one]; exact (eps_pos.trans h).le
  · rw [mul_zero]
theorem mul_pass_of_nonpos {x : EReal} (h : x ≤ 0) : x * pass x = 0 := by rw [pass_of_nonpos h, mul_zero]

/-! ## The four greatest -/

theorem top_injective (t : Fin 12 → EReal) : Function.Injective (top t) := fun r r' h =>
  Fin.ext (Fin.mk.inj_iff.mp (sortedFrom_injective _ h))

/-- When at most four entries pass the threshold, each of them is one of the four greatest. -/
theorem exists_top (t : Fin 12 → EReal) (hc : (Finset.univ.filter fun j => eps < t j).card ≤ 4) (j : Fin 12) (hj : eps < t j) :
    ∃ r, top t r = j := by
  obtain ⟨k, hk⟩ := sortedFrom_surjective (fun k k' => decide (t k' < t k)) j
  by_cases h4 : k.val < 4
  · exact ⟨⟨k.val, h4⟩, hk⟩
  · exfalso
    have hle : ∀ r, t j ≤ t (top t r) := fun r => by
      have := sortedFrom_noInversion (fun k k' => decide (t k' < t k)) (fun k k' => decide (t k' < t k))
        (fun a b h => by simp only [decide_eq_true_eq, decide_eq_false_iff_not] at h ⊢; exact not_lt.mpr h.le) (fun a b h => h)
        (fun a b c h h' => by
          simp only [decide_eq_false_iff_not, not_lt] at h h' ⊢; exact h.trans h')
        (⟨r.val, by omega⟩ : Fin 12) k (Fin.mk_lt_of_lt_val (by omega))
      rw [hk] at this
      simp only [decide_eq_false_iff_not, not_lt] at this
      exact this
    have hn : j ∉ Finset.univ.image (top t) := by
      intro h
      obtain ⟨r, -, hr⟩ := Finset.mem_image.mp h
      have := sortedFrom_injective _ (hr.trans hk.symm)
      have := congrArg Fin.val this
      simp only at this
      omega
    have hsub : insert j (Finset.univ.image (top t)) ⊆ Finset.univ.filter fun j => eps < t j := by
      intro x hx
      rw [Finset.mem_filter]
      refine ⟨Finset.mem_univ _, ?_⟩
      rcases Finset.mem_insert.mp hx with rfl | hx
      · exact hj
      · obtain ⟨r, -, rfl⟩ := Finset.mem_image.mp hx
        exact hj.trans_le (hle r)
    have := Finset.card_le_card hsub
    rw [Finset.card_insert_of_notMem hn, Finset.card_image_of_injective _ (top_injective t), Finset.card_univ, Fintype.card_fin] at this
    omega

/-- Then the reference's mask is the threshold's alone, -/
theorem keep_eq (t : Fin 12 → EReal) (hc : (Finset.univ.filter fun j => eps < t j).card ≤ 4) (j : Fin 12) : keep t j = pass (t j) := by
  unfold keep
  by_cases hj : eps < t j
  · obtain ⟨r, rfl⟩ := exists_top t hc j hj
    rw [show hot t (top t r) = 1 from ?_, one_mul]
    unfold hot
    rw [Finset.sum_eq_single r (fun r' _ h => if_neg fun e => h (top_injective t e)) (fun h => absurd (Finset.mem_univ _) h), if_pos rfl]
  · rw [show pass (t j) = 0 from if_neg hj, mul_zero]

/-- and the kept sum over the four greatest is the sum over all lanes. -/
theorem sum_top (t : Fin 12 → EReal) (hc : (Finset.univ.filter fun j => eps < t j).card ≤ 4) :
    ∑ r, t (top t r) * pass (t (top t r)) = ∑ x, t x * pass (t x) := by
  rw [← Finset.sum_image (s := Finset.univ) (g := top t) (f := fun x => t x * pass (t x)) (fun a _ b _ h => top_injective t h)]
  refine Finset.sum_subset (Finset.subset_univ _) fun x _ hx => ?_
  rw [show pass (t x) = 0 from if_neg fun h => ?_, mul_zero]
  obtain ⟨r, hr⟩ := exists_top t hc x h
  exact hx (Finset.mem_image.mpr ⟨r, Finset.mem_univ _, hr⟩)

/-! ## One node's routing: the two spellings agree -/

theorem card_win : ∀ n : Fin 12, (Finset.univ.filter fun j => Win n.val j).card ≤ 4 := by decide

variable (n : ℕ) (hn : n < 12) (v ad : Fin 12 → EReal) (a : EReal) (ha : 0 ≤ a)
  (had : ∀ j, 0 ≤ ad j) (hsup : ∀ j : Fin 12, ad j ≠ 0 → n ≤ j.val ∧ j.val ≤ n + 3)

theorem sent_win (j : Fin 12) (h : Win n j) : sentK n v a j = sentR n v a j := by
  unfold sentK sentR; rw [if_pos h, if_pos h]
theorem gotR_off (j : Fin 12) (h : ¬Win n j) (hsup : ∀ j : Fin 12, ad j ≠ 0 → n ≤ j.val ∧ j.val ≤ n + 3) : got n ad (sentR n v a) j = 0 := by
  unfold got sentR
  rw [if_neg h, mul_zero, add_zero]
  split_ifs with e
  · rfl
  · by_contra hne
    have := hsup j hne
    unfold Win at h
    omega
include ha in
theorem gotK_off (j : Fin 12) (h : ¬Win n j) (hsup : ∀ j : Fin 12, ad j ≠ 0 → n ≤ j.val ∧ j.val ≤ n + 3) : got n ad (sentK n v a) j ≤ 0 := by
  have e0 := gotR_off n v ad a j h hsup
  unfold got sentR at e0
  rw [if_neg h, mul_zero, add_zero] at e0
  unfold got sentK
  rw [e0, if_neg h, zero_add]
  exact mul_nonpos_of_nonneg_of_nonpos ha (zero_div_nonpos _)
theorem got_win (j : Fin 12) (h : Win n j) : got n ad (sentK n v a) j = got n ad (sentR n v a) j := by
  unfold got; rw [sent_win n v a j h]

include ha hsup in
theorem pass_eq (j : Fin 12) : pass (got n ad (sentK n v a) j) = pass (got n ad (sentR n v a) j) := by
  by_cases h : Win n j
  · rw [got_win n v ad a j h]
  · rw [pass_of_nonpos (gotK_off n v ad a ha j h hsup), pass_of_nonpos (gotR_off n v ad a j h hsup).le]
include ha hsup in
theorem mul_pass_eq (j : Fin 12) : got n ad (sentK n v a) j * pass (got n ad (sentK n v a) j) = got n ad (sentR n v a) j * pass (got n ad (sentR n v a) j) := by
  by_cases h : Win n j
  · rw [got_win n v ad a j h]
  · rw [mul_pass_of_nonpos (gotK_off n v ad a ha j h hsup), mul_pass_of_nonpos (gotR_off n v ad a j h hsup).le]

include hn hsup in
theorem card_pass : (Finset.univ.filter fun j => eps < got n ad (sentR n v a) j).card ≤ 4 := by
  refine (Finset.card_le_card fun j hj => ?_).trans (card_win ⟨n, hn⟩)
  rw [Finset.mem_filter] at hj ⊢
  refine ⟨hj.1, ?_⟩
  by_contra h
  rw [gotR_off n v ad a j h hsup] at hj
  exact absurd hj.2 (not_lt.mpr eps_pos.le)

include hn ha hsup in
/-- The two masks, rescaled, agree. -/
theorem mask_eq (j : Fin 12) : maskK (got n ad (sentK n v a)) j = maskR (got n ad (sentR n v a)) j := by
  unfold maskK maskR scl
  rw [keep_eq _ (card_pass n hn v ad a hsup), sum_top _ (card_pass n hn v ad a hsup), pass_eq n v ad a ha hsup,
    Finset.sum_congr rfl fun x _ => mul_pass_eq n v ad a ha hsup x]

theorem den_pos (t : Fin 12 → EReal) : 0 < ∑ x, t x * pass (t x) + tiny :=
  lt_of_lt_of_le tiny_pos (le_add_of_nonneg_left (Finset.sum_nonneg fun x _ => mul_pass_nonneg (t x)))
theorem maskK_nonneg (t : Fin 12 → EReal) (j : Fin 12) : 0 ≤ maskK t j := mul_nonneg (pass_nonneg _) (recip_nonneg (den_pos t))
theorem maskK_ne_top (t : Fin 12 → EReal) (j : Fin 12) : maskK t j ≠ ⊤ := by
  unfold maskK pass; split_ifs
  · rw [one_mul]; exact recip_ne_top (den_pos t)
  · rw [zero_mul]; exact EReal.zero_ne_top
include ha hsup in
theorem maskK_off (j : Fin 12) (h : ¬Win n j) : maskK (got n ad (sentK n v a)) j = 0 := by
  unfold maskK; rw [pass_of_nonpos (gotK_off n v ad a ha j h hsup), zero_mul]

/-- What the next node finds outstanding is not negative. -/
theorem next_nonneg (t : Fin 12 → EReal) (j : Fin 12) : 0 ≤ t j * maskK t j := by
  unfold maskK
  rw [← mul_assoc]
  exact mul_nonneg (mul_pass_nonneg _) (recip_nonneg (den_pos t))
include ha hsup in
/-- It lies on the window, -/
theorem next_sup (j : Fin 12) (h : got n ad (sentK n v a) j * maskK (got n ad (sentK n v a)) j ≠ 0) : n + 1 ≤ j.val ∧ j.val ≤ n + 1 + 3 := by
  by_contra hw
  refine h ?_
  rw [maskK_off n v ad a ha hsup j (by unfold Win; omega), mul_zero]
include hn ha hsup in
/-- and the reference finds the same. -/
theorem next_eq (j : Fin 12) : got n ad (sentK n v a) j * maskK (got n ad (sentK n v a)) j
    = got n ad (sentR n v a) j * keep (got n ad (sentR n v a)) j * scl (got n ad (sentR n v a)) := by
  rw [mul_assoc]
  show _ = _ * maskR _ j
  rw [← mask_eq n hn v ad a ha hsup j]
  by_cases h : Win n j
  · rw [got_win n v ad a j h]
  · rw [maskK_off n v ad a ha hsup j h, mul_zero, mul_zero]

end Cert.Row

end
-- ==== Proof.Hand.KStep.lean ====
module

public import proofs.«01_k».proof.Proof.Hand.Spec
public import proofs.«01_k».proof.Proof.Hand.Row
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe

/-! # One node's step of the kernel, read at an index -/

variable (I : Inp) (n : ℕ) (hn : n < 12) (ps : FVec Ideal S128x192 .f32) (ad : FVec Ideal S128x12 .f32) (cf : FVec Ideal S12x128x12 .f32)
  (b : Fin 128) (j : Fin 12)

/-- The node's scores on batch row `b`, before the window masks them. -/
def vK (k : Fin 12) : EReal :=
  Ideal.div ((∑ x : Fin 64, (∑ y : Fin 192, ps (ix2 b y) * ((196⁻¹ : ℝ) : EReal) * I.P (ix2 y x)) * I.E (ix2 x k)) - I.mean (ix2 0 k))
    (Ideal.sqrt (I.var (ix2 0 k) + Ideal.ofBits FTy.f32 0x3727C5AC#32)) * I.gamma (ix2 0 k) + I.beta (ix2 0 k)
/-- The attention the node holds: all of it at node 0, else what the earlier nodes handed to it. -/
def aK : EReal := if n = 0 then 1 else ad (ix2 b (⟨n % 12, Nat.mod_lt _ (by norm_num)⟩ : Fin 12))
/-- The attention outstanding once the node's is handed out. -/
def tK : Fin 12 → EReal := Row.got n (fun k => ad (ix2 b k)) (Row.sentK n (vK I ps b) (aK n ad b))

/-! ## The comparisons -/

theorem win_bit (n j : Fin 12) : IntOp.andi (IntOp.cmpi CmpIPredicate.sge (BitVec.ofNat 32 j.val) (Scalar.addi (BitVec.ofNat 32 n.val) 1#32))
    (IntOp.cmpi CmpIPredicate.sle (BitVec.ofNat 32 j.val) (Scalar.minsi (Scalar.addi (BitVec.ofNat 32 n.val) 4#32) 11#32)) = if Row.Win n.val j then 1#1 else 0#1 := by
  revert n j; decide
theorem eq_bit (n j : Fin 12) : IntOp.cmpi CmpIPredicate.eq (BitVec.ofNat 32 j.val) (BitVec.ofNat 32 n.val) = if j = n then 1#1 else 0#1 := by
  revert n j; decide
theorem next_bit (n : Fin 11) (j : Fin 12) : IntOp.cmpi CmpIPredicate.eq (BitVec.ofNat 32 j.val) (Scalar.addi (BitVec.ofNat 32 n.val) 1#32) = if j = n.succ then 1#1 else 0#1 := by
  revert n j; decide
theorem zero_bit (n : Fin 12) : Scalar.cmpi CmpIPredicate.eq (BitVec.ofNat 32 n.val) 0#32 = if n.val = 0 then 1#1 else 0#1 := by
  revert n; decide
theorem sel_ite (p : Prop) [Decidable p] (x y : EReal) : Scalar.select (if p then 1#1 else 0#1) x y = if p then x else y := by
  by_cases h : p
  · rw [if_pos h, if_pos h]; rfl
  · rw [if_neg h, if_neg h]; rfl

include hn in
theorem sel_win (x y : EReal) : Scalar.select (k0_pay33 (BitVec.ofNat 32 n) (ix2 b j)) x y = if Row.Win n j then x else y := by
  have e : k0_pay33 (BitVec.ofNat 32 n) (ix2 b j) = if Row.Win n j then 1#1 else 0#1 := by
    unfold k0_pay33
    pointwise
    exact win_bit ⟨n, hn⟩ j
  rw [e, sel_ite]
include hn in
theorem sel_eq (x y : EReal) : Scalar.select (IntOp.cmpi CmpIPredicate.eq (BitVec.ofNat 32 j.val) (BitVec.ofNat 32 n)) x y = if j.val = n then x else y := by
  refine (congrArg (fun c => Scalar.select c x y) (eq_bit ⟨n, hn⟩ j)).trans ((sel_ite _ _ _).trans ?_)
  exact if_congr (Fin.ext_iff (a := j) (b := ⟨n, hn⟩)) rfl rfl
include hn in
theorem sel_zero (x y : EReal) : Scalar.select (Scalar.cmpi CmpIPredicate.eq (BitVec.ofNat 32 n) 0#32) x y = if n = 0 then x else y :=
  (congrArg (fun c => Scalar.select c x y) (zero_bit ⟨n, hn⟩)).trans (sel_ite _ _ _)
include hn in
/-- Contents that are zero at node 0 are not changed by zeroing them there. -/
theorem sel_keep (y : EReal) (h : n = 0 → y = 0) : Scalar.select (Scalar.cmpi CmpIPredicate.eq (BitVec.ofNat 32 n) 0#32) 0 y = y := by
  rw [sel_zero n hn]
  split_ifs with e
  · exact (h e).symm
  · rfl

/-- A comparison's bit as a number is one where it holds, else zero. -/
theorem pass_bit (x : EReal) : (FloatOps.sitofp (F := Ideal) FTy.f32 (BitVec.setWidth 32 (BitVec.ofBool (decide (Ideal.ofBits FTy.f32 0x3C23D70A#32 < x)))) : EReal) = Row.pass x := by
  show (((BitVec.setWidth 32 (BitVec.ofBool (decide (Row.eps < x)))).toInt : ℝ) : EReal) = _
  unfold Row.pass
  by_cases h : Row.eps < x <;> simp [h]

/-! ## The node's step -/

include hn in
theorem score_apply : score I n ps (ix2 b j) = Row.msk n (vK I ps b) j := by
  unfold score k0_pay34
  pointwise
  rw [sel_win n hn]
  unfold Row.msk vK
  rw [IdealRules.named_const.ideal_named_scalar κ "mask" _ ⊥ rfl]
  simp only [IdealRules.named_const.ideal_named_scalar κ "hw" _ ((196⁻¹ : ℝ) : EReal) rfl]

variable (hz : n = 0 → ∀ k, ad (ix2 b k) = 0)

include hn hz in
theorem sent_apply : sent I n ps ad (ix2 b j) = Row.sentK n (vK I ps b) (aK n ad b) j := by
  unfold sent k0_pay36 k0_pay35
  pointwise
  simp only [sel_win n hn, score_apply I n hn, sel_eq n hn, sel_zero n hn, Row.ninf]
  unfold Row.sentK Row.tot Row.ex Row.mx aK
  refine congrArg₂ (· * ·) ?_ rfl
  by_cases h0 : n = 0
  · rw [if_pos h0, if_pos h0]
  · rw [if_neg h0, if_neg h0, Finset.sum_eq_single (⟨n % 12, Nat.mod_lt _ (by norm_num)⟩ : Fin 12)]
    · rw [if_pos (Nat.mod_eq_of_lt hn), if_neg h0]
    · intro k _ hk
      rw [if_neg fun e => hk (Fin.ext (e.trans (Nat.mod_eq_of_lt hn).symm))]
    · exact fun h => absurd (Finset.mem_univ _) h

include hn hz in
theorem ad1_apply : ad1 I n ps ad (ix2 b j) = tK I n ps ad b j := by
  show k0_pay37 (F := Ideal) (BitVec.ofNat 32 n) lanes (k0_pay33 (BitVec.ofNat 32 n)) (score I n ps) ad _ = _
  unfold k0_pay37 k0_pay35
  rw [show k0_pay36 (F := Ideal) (BitVec.ofNat 32 n) lanes (k0_pay33 (BitVec.ofNat 32 n)) (score I n ps) ad = sent I n ps ad from rfl]
  pointwise
  rw [sel_eq n hn, sel_keep n hn _ fun e => hz e j, sent_apply I n hn ps ad b j hz]
  rfl

include hn hz in
theorem mrow_apply : mrow I n ps ad (ix2 b j) = Row.maskK (tK I n ps ad b) j := by
  show k0_pay38 (F := Ideal) (BitVec.ofNat 32 n) lanes (k0_pay33 (BitVec.ofNat 32 n)) (score I n ps) ad _ = _
  unfold k0_pay38
  rw [show k0_pay37 (F := Ideal) (BitVec.ofNat 32 n) lanes (k0_pay33 (BitVec.ofNat 32 n)) (score I n ps) ad = ad1 I n ps ad from rfl]
  pointwise
  simp only [pass_bit, ad1_apply I n hn ps ad b _ hz]
  rfl

include hn hz in
theorem adNext_apply : adNext I n ps ad (ix2 b j) = tK I n ps ad b j * Row.maskK (tK I n ps ad b) j := by
  unfold adNext k0_pay1
  pointwise
  rw [ad1_apply I n hn ps ad b j hz, mrow_apply I n hn ps ad b j hz]

/-- The coefficients: the node adds what it hands out as its own row, and the pruning scales every row. -/
theorem cfNext_apply (p : Fin 12) (hc : n = 0 → cf (ix3 p b j) = 0) (hn : n < 12) (hz : n = 0 → ∀ k, ad (ix2 b k) = 0) :
    cfNext I n ps ad cf (ix3 p b j)
      = (cf (ix3 p b j) + if p.val = n then Row.sentK n (vK I ps b) (aK n ad b) j else 0) * Row.maskK (tK I n ps ad b) j := by
  unfold cfNext k0_pay3 k0_pay2
  pointwise
  rw [sel_keep n hn _ hc, sel_eq n hn, mrow_apply I n hn ps ad b j hz, sent_apply I n hn ps ad b j hz]

/-- What the kernel sets aside for the next node is that node's column of the coefficients. -/
theorem cnNext_apply (p : Fin 12) (h11 : n < 11) : cnNext I n ps ad cf (ix3 p b 0) = cfNext I n ps ad cf (ix3 p b (⟨n + 1, by omega⟩ : Fin 12)) := by
  unfold cnNext cfNext k0_pay4 k0_pay3
  pointwise
  rw [Finset.sum_eq_single (⟨n + 1, by omega⟩ : Fin 12)]
  · refine (congrArg (fun c => Scalar.select c _ _) (next_bit ⟨n, h11⟩ ⟨n + 1, by omega⟩)).trans ((sel_ite _ _ _).trans ?_)
    exact if_pos rfl
  · intro k _ hk
    refine (congrArg (fun c => Scalar.select c _ _) (next_bit ⟨n, h11⟩ k)).trans ((sel_ite _ _ _).trans ?_)
    exact if_neg hk
  · exact fun h => absurd (Finset.mem_univ _) h

end Cert.KernelIdeal.Val

end
-- ==== Proof.Hand.RefStep.lean ====
module

public import proofs.«01_k».proof.Proof.Gen.ReferenceIdeal.Step
public import proofs.«01_k».proof.Proof.Hand.Row
public import Idealize.ShloMosaic.Lib.Pipeline.ValueKit
public import Idealize.ShloMosaic.Lib.DynamicIndex

@[expose] public section

set_option maxRecDepth 16384

noncomputable section

namespace Cert.ReferenceIdeal.Val

open Cert.ReferenceIdeal Cert.ReferenceIdeal.Gen Cert.ReferenceIdeal.Step
open Idealize.ShloMosaic

/-! # One trip of the reference, read at an index -/

variable (j : ℕ) (s : State Ideal)

/-- A comparison's bit as a number is one where it holds, else zero. -/
theorem pass_bit (x : EReal) : (FloatOps.uitofp (F := Ideal) FTy.f32 (BitVec.ofBool (decide (Ideal.ofBits FTy.f32 0x3C23D70A#32 < x))) : EReal) = Row.pass x := by
  show (((BitVec.ofBool (decide (Row.eps < x))).toNat : ℝ) : EReal) = _
  unfold Row.pass
  by_cases h : Row.eps < x <;> simp [h]

/-! ## The node's index -/

theorem index_nat (n : Fin 12) : (Scalar.select (IntOp.cmpi CmpIPredicate.slt (BitVec.ofNat 32 n.val) 0#32) (IntOp.addi (BitVec.ofNat 32 n.val) 12#32) (BitVec.ofNat 32 n.val)).toInt = n.val := by
  revert n; decide
theorem b7_toInt (hj : j < 12) (i) : (b7 j s i).toInt = j := by
  unfold b7 b6 b5 b4 b3 b2
  exact index_nat ⟨j, hj⟩
theorem b55_toInt (hj : j < 12) (i) : (b55 j s i).toInt = j := by
  unfold b55 b54 b53 b52 b51 b42
  exact index_nat ⟨j, hj⟩
theorem b65_toInt (hj : j < 12) (i) : (b65 j s i).toInt = j := by
  unfold b65 b64 b63 b62 b61 b60
  exact index_nat ⟨j, hj⟩

/-! ## What the node reads -/

theorem b41_apply (hj : j < 12) (b : Fin 128) (d : Fin 192) (h w : Fin 14) : b41 j s (ix4 b d h w) = s.main_v8_10 (ix5 (⟨j, hj⟩ : Fin 12) b d h w) := by
  unfold b41 b40
  rw [Host.dynamicSlice_eq_extractStridedSlice S1x128x192x14x14 s.main_v8_10 _ ![j, 0, 0, 0, 0] sliceFits_S12x128x192x14x14_S1x128x192x14x14
    ⟨rfl, fun a => by fin_cases a <;> simp <;> omega⟩ (fun a => by fin_cases a; exact b7_toInt j s hj _; all_goals rfl)]
  pointwise
theorem b57_apply (hj : j < 12) (b : Fin 128) : b57 j s (ix1 b) = s.main_v8_11 (ix2 b (⟨j, hj⟩ : Fin 12)) := by
  unfold b57 b56
  rw [Host.dynamicSlice_eq_extractStridedSlice S128x1 s.main_v8_11 _ ![0, j] sliceFits_S128x12_S128x1
    ⟨rfl, fun a => by fin_cases a <;> simp <;> omega⟩ (fun a => by fin_cases a; rfl; exact b55_toInt j s hj _)]
  pointwise
theorem b83_apply (hj : j < 12) (e d : Fin 192) : b83 j s (ix2 e d) = s.main_v8_0 (ix3 (⟨j, hj⟩ : Fin 12) e d) := by
  unfold b83 b82
  rw [Host.dynamicSlice_eq_extractStridedSlice S1x192x192 s.main_v8_0 _ ![j, 0, 0] sliceFits_S12x192x192_S1x192x192
    ⟨rfl, fun a => by fin_cases a <;> simp <;> omega⟩ (fun a => by fin_cases a; exact b65_toInt j s hj _; all_goals rfl)]
  pointwise

/-! ## Its feature -/

theorem first_bit (n : Fin 12) : IntOp.cmpi CmpIPredicate.sgt (BitVec.ofNat 32 n.val) 0#32 = if n.val = 0 then 0#1 else 1#1 := by
  revert n; decide
theorem b89_apply (hj : j < 12) (b : Fin 128) (e : Fin 192) (h w : Fin 14) : b89 j s (ix4 b e h w)
    = if j = 0 then s.main_v8_10 (ix5 (⟨j, hj⟩ : Fin 12) b e h w)
      else max (∑ d : Fin 192, s.main_v8_0 (ix3 (⟨j, hj⟩ : Fin 12) e d) * s.main_v8_10 (ix5 (⟨j, hj⟩ : Fin 12) b d h w)) 0 := by
  unfold b89 b88 b87 b86 b59 b58 b85 b84
  pointwise
  simp only [b83_apply j s hj, b41_apply j s hj]
  rw [first_bit ⟨j, hj⟩]
  by_cases h0 : j = 0
  · simp only [h0, if_true]; rfl
  · simp only [h0, if_false]; rfl

/-! ## Its scores -/

theorem b113_apply (b : Fin 128) (k : Fin 12) : b113 j s (ix2 b k)
    = Ideal.div ((∑ x : Fin 64, (∑ y : Fin 192, (∑ h : Fin 14, ∑ w : Fin 14, b89 j s (ix4 b y h w)) * ((196⁻¹ : ℝ) : EReal) * s.main_v8_1 (ix2 y x)) * s.main_v8_2 (ix2 k x))
        - s.main_v8_3 (ix1 k)) (Ideal.sqrt (s.main_v8_4 (ix1 k) + Ideal.ofBits FTy.f32 0x3727C5AC#32)) * s.main_v8_5 (ix1 k) + s.main_v8_6 (ix1 k) := by
  unfold b113 b112 b111 b110 b109 b108 b107 b106 b105 b104 b103 b102 b101 b100 b99 b98 b97 b96 b95 b94 b93 b92 b91 b90
  pointwise
  simp only [Row.div_pixels]

/-! ## The attention it hands out -/

/-- The window's bit. -/
theorem win_bit (n k : Fin 12) : IntOp.andi (IntOp.cmpi CmpIPredicate.sgt (BitVec.ofNat 32 k.val) (BitVec.ofNat 32 n.val))
    (IntOp.cmpi CmpIPredicate.sle (BitVec.ofNat 32 k.val) (IntOp.addi (BitVec.ofNat 32 n.val) 4#32)) = if Row.Win n.val k then 1#1 else 0#1 := by
  revert n k; decide
theorem sel_win (hj : j < 12) (k : Fin 12) (x y : EReal) : Scalar.select (b122 j s (ix1 k)) x y = if Row.Win j k then x else y := by
  have e : b122 j s (ix1 k) = if Row.Win j k then 1#1 else 0#1 := by
    unfold b122 b121 b120 b119 b118 b117 b116 b115 b114 K_main_v0
    pointwise
    exact win_bit ⟨j, hj⟩ k
  rw [e]
  by_cases h : Row.Win j k
  · rw [if_pos h, if_pos h]; rfl
  · rw [if_neg h, if_neg h]; rfl

/-- The node's scores on batch row `b`. -/
def vR (b : Fin 128) : Fin 12 → EReal := fun k => b113 j s (ix2 b k)

theorem msk_apply (hj : j < 12) (b : Fin 128) (k : Fin 12) : b126 j s (ix2 b k) = Row.msk j (vR j s b) k := by
  unfold b126 b125 b124 b123
  pointwise
  rw [sel_win j s hj, Row.ninf]; rfl
theorem mx_apply (hj : j < 12) (b : Fin 128) : b132 j s (ix2 b 0) = Row.mx j (vR j s b) := by
  unfold b132 b131 b130 b129 b128 b127
  pointwise
  rw [Row.ninf, bot_sup_eq]
  exact Finset.fold_congr fun k _ => msk_apply j s hj b k
theorem ex_apply (hj : j < 12) (b : Fin 128) (k : Fin 12) : b140 j s (ix2 b k) = Row.ex j (vR j s b) k := by
  unfold b140 b139 b138
  pointwise
  rw [mx_apply j s hj, show b137 j s (ix2 b k) = b126 j s (ix2 b k) from rfl, msk_apply j s hj]; rfl
theorem tot_apply (hj : j < 12) (b : Fin 128) : b146 j s (ix1 b) = Row.tot j (vR j s b) := by
  unfold b146 b145 b144 b143 b142 b141
  pointwise
  exact Finset.sum_congr rfl fun k _ => by rw [sel_win j s hj, ex_apply j s hj]
theorem sent_apply (hj : j < 12) (b : Fin 128) (k : Fin 12) : b157 j s (ix2 b k) = Row.sentR j (vR j s b) (s.main_v8_11 (ix2 b (⟨j, hj⟩ : Fin 12))) k := by
  unfold b157 b156 b155 b154 b153 b152 b151 b150 b149 b148 b147
  pointwise
  rw [sel_win j s hj, ex_apply j s hj, tot_apply j s hj, b57_apply j s hj, show (FloatOps.sitofp (F := Ideal) FTy.f32 0#32 : EReal) = 0 from by
    show (((0#32 : BitVec 32).toInt : ℝ) : EReal) = 0
    simp]
  rfl

/-- The attention outstanding on batch row `b` once it is handed out. -/
def tR (b : Fin 128) : Fin 12 → EReal := fun k => b166 j s (ix2 b k)

theorem eq_bit (n k : Fin 12) : IntOp.cmpi CmpIPredicate.eq (BitVec.ofNat 32 k.val) (BitVec.ofNat 32 n.val) = if k.val = n.val then 1#1 else 0#1 := by
  revert n k; decide
theorem got_apply (hj : j < 12) (b : Fin 128) : tR j s b
    = Row.got j (fun k => s.main_v8_12 (ix2 b k)) (Row.sentR j (vR j s b) (s.main_v8_11 (ix2 b (⟨j, hj⟩ : Fin 12)))) := by
  funext k
  unfold tR b166 b165 b164 b163 b162 b161 b160 b159 b158 K_main_v0
  pointwise
  rw [sent_apply j s hj]
  unfold Row.got
  refine congrArg (· + _) ?_
  refine (congrArg (fun c => Scalar.select c (0 : EReal) (s.main_v8_12 (ix2 b k))) (eq_bit ⟨j, hj⟩ k)).trans ?_
  by_cases h : k.val = j
  · simp only [h, if_true]; rfl
  · simp only [h, if_false]; rfl

/-! ## The pruning -/

theorem along_row (b : Fin 128) (k k' : Fin 12) : (ix2 b k : S128x12.Idx).along 1 k' = ix2 b k' := by
  funext a; fin_cases a
  · rfl
  · rfl
theorem top_gt (t : Fin 12 → EReal) (r : Fin 4) : sortedFrom (fun k k' => FloatOps.cmpfTotal (F := Ideal) (φ := .f32) CmpDirection.gt (t k) (t k') == 1#1) (⟨r.val, by omega⟩ : Fin 12) = Row.top t r := by
  unfold Row.top
  refine congrArg (fun B => sortedFrom B (⟨r.val, by omega⟩ : Fin 12)) (funext fun k => funext fun k' => ?_)
  rw [Ideal.cmpfTotal_def]
  show (BitVec.ofBool (decide (t k' < t k)) == 1#1) = _
  by_cases h : t k' < t k <;> simp [h]
theorem top_val (b : Fin 128) (r : Fin 4) : b167 j s (ix2 b r) = tR j s b (Row.top (tR j s b) r) := by
  unfold b167 Host.topK Host.sort2
  pointwise
  simp only [along_row]
  exact congrArg (tR j s b) (top_gt (tR j s b) r)
theorem top_idx (b : Fin 128) (r : Fin 4) : b168 j s (ix2 b r) = BitVec.ofNat 32 (Row.top (tR j s b) r).val := by
  unfold b168 Host.topK Host.sort2
  pointwise
  simp only [along_row]
  exact congrArg (fun k : Fin 12 => BitVec.ofNat 32 k.val) (top_gt (tR j s b) r)
theorem hot_apply (b : Fin 128) (k : Fin 12) : b176 j s (ix2 b k) = Row.hot (tR j s b) k := by
  unfold b176 b175 b174 b173 b172 b171 b170 b169
  pointwise
  refine Finset.sum_congr rfl fun r _ => ?_
  rw [top_idx, eq_bit]
  show (((if (Row.top (tR j s b) r).val = k.val then 1#1 else 0#1 : BitVec 1).toNat : ℝ) : EReal) = _
  by_cases h : Row.top (tR j s b) r = k
  · simp [h]
  · rw [if_neg h, if_neg fun e => h (Fin.ext e)]; simp
theorem keep_apply (b : Fin 128) (k : Fin 12) : b181 j s (ix2 b k) = Row.keep (tR j s b) k := by
  unfold b181 b180 b179 b178 b177
  pointwise
  rw [hot_apply, pass_bit]; rfl
theorem scl_apply (b : Fin 128) : b194 j s (ix1 b) = Row.scl (tR j s b) := by
  unfold b194 b193 b192 b191 b190 b189 b188 b187 b186 b185 b184 b183 b182
  pointwise
  unfold Row.scl
  refine congrArg (fun x => Ideal.div 1 (x + Row.tiny)) (Finset.sum_congr rfl fun r _ => ?_)
  rw [pass_bit, top_val]

/-! ## What the trip hands the next -/

theorem ad_step (b : Fin 128) (k : Fin 12) : (step j s).main_v8_12 (ix2 b k) = tR j s b k * Row.keep (tR j s b) k * Row.scl (tR j s b) := by
  rw [step_main_v8_12]
  unfold b198 b197 b196 b195
  pointwise
  rw [keep_apply, scl_apply]; rfl
theorem mask_apply (b : Fin 128) (k : Fin 12) : b209 j s (ix2 b k) = Row.maskR (tR j s b) k := by
  unfold b209 b208 b207
  pointwise
  rw [keep_apply, scl_apply]; rfl
theorem na_step (hj : j < 12) (b : Fin 128) (k : Fin 12) : (step j s).main_v8_11 (ix2 b k)
    = (s.main_v8_11 (ix2 b k) + Row.sentR j (vR j s b) (s.main_v8_11 (ix2 b (⟨j, hj⟩ : Fin 12))) k) * Row.maskR (tR j s b) k := by
  rw [step_main_v8_11]
  unfold b210 b199
  pointwise
  rw [mask_apply, sent_apply j s hj]
theorem nf_step (hj : j < 12) (n : Fin 12) (b : Fin 128) (d : Fin 192) (h w : Fin 14) : (step j s).main_v8_10 (ix5 n b d h w)
    = (s.main_v8_10 (ix5 n b d h w) + Row.sentR j (vR j s b) (s.main_v8_11 (ix2 b (⟨j, hj⟩ : Fin 12))) n * b89 j s (ix4 b d h w)) * Row.maskR (tR j s b) n := by
  rw [step_main_v8_10]
  unfold b214 b213 b212 b211 b206 b205 b204 b203 b202 b201 b200
  pointwise
  rw [mask_apply, sent_apply j s hj]

/-! ## The first trip's state, and the result -/

variable (a6 : (⟨S12x192x192, .f32⟩ : BufTy).Contents (Elt Ideal)) (a7 : (⟨S192x64, .f32⟩ : BufTy).Contents (Elt Ideal))
  (a1 : (⟨S12x64, .f32⟩ : BufTy).Contents (Elt Ideal)) (a4 a5 a2 a3 : (⟨S12, .f32⟩ : BufTy).Contents (Elt Ideal))
  (a0 : (⟨S128x192x14x14, .f32⟩ : BufTy).Contents (Elt Ideal))

theorem nf_init (n : Fin 12) (b : Fin 128) (d : Fin 192) (h w : Fin 14) :
    (init (F := Ideal) a6 a7 a1 a4 a5 a2 a3 a0).main_v8_10 (ix5 n b d h w) = if n.val = 0 then a0 (ix4 b d h w) else 0 := by
  unfold init A_main_v3 A_main_v1 K_main_v2 K_main_cst
  pointwise
  by_cases hn : n.val = 0
  · rw [dif_pos (by omega), if_pos hn]
  · rw [dif_neg (by omega), if_neg hn]
theorem na_init (b : Fin 128) (n : Fin 12) :
    (init (F := Ideal) a6 a7 a1 a4 a5 a2 a3 a0).main_v8_11 (ix2 b n) = if n.val = 0 then 1 else 0 := by
  unfold init K_main_v6 K_main_v5 K_main_v4 K_main_cst_0 K_main_cst_1
  pointwise
  by_cases hn : n.val = 0
  · rw [dif_pos (by omega), if_pos hn]
  · rw [dif_neg (by omega), if_neg hn]
theorem ad_init (b : Fin 128) (n : Fin 12) :
    (init (F := Ideal) a6 a7 a1 a4 a5 a2 a3 a0).main_v8_12 (ix2 b n) = 0 := by
  unfold init K_main_v7 K_main_cst_2
  pointwise
theorem result_apply (b : Fin 128) (d : Fin 192) (h w : Fin 14) : R_main_v10 s (ix4 b d h w) = s.main_v8_10 (ix5 (11 : Fin 12) b d h w) := by
  unfold R_main_v10
  pointwise

end Cert.ReferenceIdeal.Val

end
-- ==== Proof.Hand.Match.lean ====
module

public import proofs.«01_k».proof.Proof.Hand.KStep
public import proofs.«01_k».proof.Proof.Hand.RefStep

@[expose] public section

set_option maxRecDepth 16384

noncomputable section

namespace Cert.Match

open Idealize.ShloMosaic Cert.KernelIdeal.Val
open Cert.ReferenceIdeal.Val (vR tR)
open Cert.ReferenceIdeal.Step (State step b89)

/-! # The kernel's recursion and the reference's trips carry the same rows -/

/-- The pixel at row `h` and column `w`. -/
abbrev pix (h w : Fin 14) : Fin 196 := ⟨h.val * 14 + w.val, by omega⟩

/-! ## Sums -/

/-- A factor that is neither negative nor `+∞` goes into a sum. -/
theorem sum_mul {ι : Type*} (S : Finset ι) (f : ι → EReal) (x : EReal) (h0 : 0 ≤ x) (ht : x ≠ ⊤) : (∑ i ∈ S, f i) * x = ∑ i ∈ S, f i * x := by
  classical
  induction S using Finset.induction_on with
  | empty => simp
  | insert a S ha ih =>
    rw [Finset.sum_insert ha, Finset.sum_insert ha, ← ih, mul_comm, EReal.left_distrib_of_nonneg_of_ne_top h0 ht, mul_comm x, mul_comm x]

/-- The sum over the pixels by rows and columns. -/
theorem sum_pix (f : Fin 196 → EReal) : ∑ p, f p = ∑ h : Fin 14, ∑ w : Fin 14, f (pix h w) := by
  rw [← Fintype.sum_prod_type (f := fun x : Fin 14 × Fin 14 => f (pix x.1 x.2))]
  refine (Fintype.sum_equiv (finProdFinEquiv (m := 14) (n := 14)) _ _ fun x => congrArg f (Fin.ext ?_)).symm
  show x.1.val * 14 + x.2.val = x.2.val + 14 * x.1.val
  omega

/-- Terms that vanish outside the four nodes before `n` are summed by how far back they lie. -/
theorem sum_back (n : ℕ) (hn : n ≤ 12) (g : ℕ → EReal) (hg : ∀ p, p + 4 < n → g p = 0) (hg' : ∀ p, n ≤ p → g p = 0) :
    (∑ o : Fin 4, if o.val + 1 ≤ n then g (n - (o.val + 1)) else 0) = ∑ p : Fin 12, g p.val := by
  rw [Fin.sum_univ_eq_sum_range (fun o => if o + 1 ≤ n then g (n - (o + 1)) else 0) 4, Fin.sum_univ_eq_sum_range g 12]
  have e1 : ∑ p ∈ Finset.range 12, g p = ∑ p ∈ Finset.range n, g p :=
    (Finset.sum_subset (Finset.range_mono hn) fun p _ h => hg' p (by simpa using h)).symm
  have e2 : ∑ p ∈ Finset.range n, g p = ∑ o ∈ Finset.range n, if o + 1 ≤ n then g (n - (o + 1)) else 0 := by
    rw [← Finset.sum_range_reflect]
    refine Finset.sum_congr rfl fun o ho => ?_
    have := Finset.mem_range.mp ho
    rw [if_pos (by omega), show n - 1 - o = n - (o + 1) by omega]
  have e3 : ∑ o ∈ Finset.range n, (if o + 1 ≤ n then g (n - (o + 1)) else 0) = ∑ o ∈ Finset.range (n + 4), if o + 1 ≤ n then g (n - (o + 1)) else 0 :=
    Finset.sum_subset (Finset.range_mono (by omega)) fun o _ h => if_neg (by simp at h; omega)
  have e4 : ∑ o ∈ Finset.range 4, (if o + 1 ≤ n then g (n - (o + 1)) else 0) = ∑ o ∈ Finset.range (n + 4), if o + 1 ≤ n then g (n - (o + 1)) else 0 := by
    refine Finset.sum_subset (Finset.range_mono (by omega)) fun o _ h => ?_
    have : 4 ≤ o := by simpa using h
    split_ifs with h'
    · exact hg _ (by omega)
    · rfl
  rw [e4, e1, e2, e3]

/-! ## The two recursions, and what ties them -/

variable (I : Inp) (s : ℕ → State Ideal)

/-- The reference's states start from the arrays the kernel's launch meets, and go on by its trip. -/
structure Meets : Prop where
  step : ∀ n, s (n + 1) = step n (s n)
  x : ∀ b d h w, (s 0).main_v8_10 (ix5 (0 : Fin 12) b d h w) = I.x (ix3 (pix h w) b d)
  rest : ∀ (j : Fin 12) b d h w, j.val ≠ 0 → (s 0).main_v8_10 (ix5 j b d h w) = (0 : EReal)
  na : ∀ b (j : Fin 12), (s 0).main_v8_11 (ix2 b j) = if j.val = 0 then (1 : EReal) else 0
  ad : ∀ b (j : Fin 12), (s 0).main_v8_12 (ix2 b j) = (0 : EReal)
  wt : ∀ (k : Fin 10) d e, (s 0).main_v8_0 (ix3 (⟨1 + k.val, by omega⟩ : Fin 12) e d) = I.wt (ix3 k d e)
  P : ∀ d k, (s 0).main_v8_1 (ix2 d k) = I.P (ix2 d k)
  E : ∀ j k, (s 0).main_v8_2 (ix2 j k) = I.E (ix2 k j)
  mean : ∀ j, (s 0).main_v8_3 (ix1 j) = I.mean (ix2 0 j)
  var : ∀ j, (s 0).main_v8_4 (ix1 j) = I.var (ix2 0 j)
  gamma : ∀ j, (s 0).main_v8_5 (ix1 j) = I.gamma (ix2 0 j)
  beta : ∀ j, (s 0).main_v8_6 (ix1 j) = I.beta (ix2 0 j)

/-- The parameters pass every trip unchanged. -/
theorem params (M : Meets I s) (n : ℕ) : (s n).main_v8_0 = (s 0).main_v8_0 ∧ (s n).main_v8_1 = (s 0).main_v8_1 ∧ (s n).main_v8_2 = (s 0).main_v8_2
    ∧ (s n).main_v8_3 = (s 0).main_v8_3 ∧ (s n).main_v8_4 = (s 0).main_v8_4 ∧ (s n).main_v8_5 = (s 0).main_v8_5 ∧ (s n).main_v8_6 = (s 0).main_v8_6 := by
  induction n with
  | zero => exact ⟨rfl, rfl, rfl, rfl, rfl, rfl, rfl⟩
  | succ n ih => rw [M.step n]; exact ih

/-- Before node `n` the two recursions hold the same: the attention outstanding, what each later node has received, and each
    later node's feature, which the kernel keeps as coefficients of the earlier ones. -/
structure Agree (n : ℕ) : Prop where
  ad : ∀ b (j : Fin 12), (s n).main_v8_12 (ix2 b j) = (K I n).ad (ix2 b j)
  nonneg : ∀ b (j : Fin 12), (0 : EReal) ≤ (K I n).ad (ix2 b j)
  sup : ∀ b (j : Fin 12), (K I n).ad (ix2 b j) ≠ (0 : EReal) → n ≤ j.val ∧ j.val ≤ n + 3
  na : ∀ b (j : Fin 12), n ≤ j.val → (s n).main_v8_11 (ix2 b j) = if j.val = 0 then (1 : EReal) else (K I n).ad (ix2 b j)
  x : n = 0 → ∀ b d h w, (s n).main_v8_10 (ix5 (0 : Fin 12) b d h w) = I.x (ix3 (pix h w) b d)
  nf : ∀ (j : Fin 12) b d h w, j.val ≠ 0 → (s n).main_v8_10 (ix5 j b d h w)
    = (∑ p : Fin 12, (K I n).cf (ix3 p b j) * Fv I p.val (pix h w) b d : EReal)
  later : ∀ (p : Fin 12) b (j : Fin 12), n ≤ p.val → (K I n).cf (ix3 p b j) = (0 : EReal)
  far : ∀ (p : Fin 12) b (j : Fin 12), p.val + 4 < j.val → (K I n).cf (ix3 p b j) = (0 : EReal)
  cn : ∀ (h : n < 12) (p : Fin 12) b, n ≠ 0 → (K I n).cn (ix3 p b 0) = (K I n).cf (ix3 p b (⟨n, h⟩ : Fin 12))

theorem agree_zero (M : Meets I s) : Agree I s 0 where
  ad b j := M.ad b j
  nonneg b j := le_refl _
  sup b j h := absurd rfl h
  na b j _ := M.na b j
  x _ := M.x
  nf j b d h w hj := by
    rw [M.rest j b d h w hj]
    exact (Finset.sum_eq_zero fun p _ => zero_mul _).symm
  later p b j _ := rfl
  far p b j _ := rfl
  cn h p b h0 := absurd rfl h0

variable {I s} {n : ℕ} (M : Meets I s) (A : Agree I s n)

/-! ## Node `n`'s feature -/

include A in
/-- The kernel's combination of the four nodes before is the reference's feature of the node. -/
theorem agg_eq (hn : n < 12) (h0 : n ≠ 0) (b : Fin 128) (d : Fin 192) (h w : Fin 14) :
    agg n (K I n) (pix h w) b d = (s n).main_v8_10 (ix5 (⟨n, hn⟩ : Fin 12) b d h w) := by
  rw [A.nf ⟨n, hn⟩ b d h w h0]
  have key := sum_back n (by omega) (fun p => if hp : p < 12 then (K I n).cf (ix3 (⟨p, hp⟩ : Fin 12) b (⟨n, hn⟩ : Fin 12)) * Fv I p (pix h w) b d else (0 : EReal))
    (fun p hp => by
      by_cases h12 : p < 12
      · rw [dif_pos h12, A.far ⟨p, h12⟩ b ⟨n, hn⟩ hp, zero_mul]
      · rw [dif_neg h12])
    (fun p hp => by
      by_cases h12 : p < 12
      · rw [dif_pos h12, A.later ⟨p, h12⟩ b ⟨n, hn⟩ hp, zero_mul]
      · rw [dif_neg h12])
  refine Eq.trans ?_ (key.trans (Finset.sum_congr rfl fun p _ => dif_pos p.isLt))
  unfold agg
  refine Finset.sum_congr rfl fun o _ => ?_
  by_cases ho : o.val + 1 ≤ n
  · rw [dif_pos ⟨ho, by omega⟩, if_pos ho, dif_pos (by omega), A.cn hn _ b h0, K_f I _ n (by omega)]
  · rw [dif_neg fun e => ho e.1, if_neg ho]

include M A in
theorem feat_eq (hn : n < 11) (b : Fin 128) (e : Fin 192) (h w : Fin 14) : Fv I n (pix h w) b e = b89 n (s n) (ix4 b e h w) := by
  rw [Cert.ReferenceIdeal.Val.b89_apply n (s n) (by omega)]
  unfold Fv feat
  by_cases h0 : n = 0
  · subst h0
    rw [if_pos rfl, if_pos rfl]
    exact (A.x rfl b e h w).symm
  · rw [if_neg h0, if_neg h0, dif_pos (by omega)]
    refine congrArg (fun x : EReal => max x 0) (Finset.sum_congr rfl fun d _ => ?_)
    rw [agg_eq A (by omega) h0, (params I s M n).1, mul_comm, ← M.wt]
    refine congrArg (fun k : Fin 12 => (s 0).main_v8_0 (ix3 k e d) * (s n).main_v8_10 (ix5 (⟨n, by omega⟩ : Fin 12) b d h w)) (Fin.ext ?_)
    show 1 + (n - 1) = n
    omega

include M A in
theorem psum_eq (hn : n < 11) (b : Fin 128) (y : Fin 192) : psum I n (K I n) (ix2 b y) = ∑ h : Fin 14, ∑ w : Fin 14, b89 n (s n) (ix4 b y h w) := by
  show ∑ p : Fin 196, Fv I n p b y = _
  rw [sum_pix]
  exact Finset.sum_congr rfl fun h _ => Finset.sum_congr rfl fun w _ => feat_eq M A hn b y h w

/-! ## Its scores and its attention -/

include M A in
theorem v_eq (hn : n < 11) (b : Fin 128) : vR n (s n) b = vK I (psum I n (K I n)) b := by
  obtain ⟨-, h1, h2, h3, h4, h5, h6⟩ := params I s M n
  funext k
  unfold vR vK
  rw [Cert.ReferenceIdeal.Val.b113_apply, h1, h2, h3, h4, h5, h6, M.mean, M.var, M.gamma, M.beta]
  simp only [M.P, M.E, psum_eq M A hn]

include A in
theorem a_eq (hn : n < 12) (b : Fin 128) : (s n).main_v8_11 (ix2 b (⟨n, hn⟩ : Fin 12)) = aK n (K I n).ad b := by
  rw [A.na b ⟨n, hn⟩ (le_refl _)]
  unfold aK
  refine if_congr Iff.rfl rfl ?_
  exact congrArg (fun k : Fin 12 => (K I n).ad (ix2 b k)) (Fin.ext (Nat.mod_eq_of_lt hn).symm)
include A in
theorem a_nonneg (b : Fin 128) : 0 ≤ aK n (K I n).ad b := by
  unfold aK
  split_ifs
  · exact zero_le_one
  · exact A.nonneg b _

/-- Node 0 meets nothing outstanding. -/
theorem met (b : Fin 128) (h : n = 0) (k : Fin 12) : (K I n).ad (ix2 b k) = (0 : EReal) := by subst h; rfl

/-- What node `n` hands out on batch row `b`, and what is outstanding then, in the reference's spelling. -/
abbrev σ (I : Inp) (n : ℕ) (b : Fin 128) : Fin 12 → EReal := Row.sentR n (vK I (psum I n (K I n)) b) (aK n (K I n).ad b)
abbrev τ' (I : Inp) (n : ℕ) (b : Fin 128) : Fin 12 → EReal := Row.got n (fun k => (K I n).ad (ix2 b k)) (σ I n b)
abbrev κ' (I : Inp) (n : ℕ) (b : Fin 128) : Fin 12 → EReal := tK I n (psum I n (K I n)) (K I n).ad b

include M A in
theorem sent_eq (hn : n < 11) (b : Fin 128) : Row.sentR n (vR n (s n) b) ((s n).main_v8_11 (ix2 b (⟨n, by omega⟩ : Fin 12))) = σ I n b := by
  rw [v_eq M A hn, a_eq A]
include M A in
theorem got_eq (hn : n < 11) (b : Fin 128) : tR n (s n) b = τ' I n b := by
  rw [Cert.ReferenceIdeal.Val.got_apply n (s n) (by omega), sent_eq M A hn]
  exact congrArg (fun f => Row.got n f (σ I n b)) (funext fun k => A.ad b k)
include A in
theorem mask_eq (hn : n < 11) (b : Fin 128) (j : Fin 12) : Row.maskR (τ' I n b) j = Row.maskK (κ' I n b) j :=
  (Row.mask_eq n (by omega) _ _ _ (a_nonneg A b) (A.sup b) j).symm
include A in
theorem next_eq (hn : n < 11) (b : Fin 128) (j : Fin 12) : κ' I n b j * Row.maskK (κ' I n b) j = τ' I n b j * Row.keep (τ' I n b) j * Row.scl (τ' I n b) :=
  Row.next_eq n (by omega) _ _ _ (a_nonneg A b) (A.sup b) j
include A in
theorem mask_off (b : Fin 128) (j : Fin 12) (h : ¬Row.Win n j) : Row.maskK (κ' I n b) j = 0 :=
  Row.maskK_off n _ _ _ (a_nonneg A b) (A.sup b) j h

/-! ## The kernel's next state -/

theorem ad_succ (hn : n < 11) (b : Fin 128) (j : Fin 12) : (K I (n + 1)).ad (ix2 b j) = κ' I n b j * Row.maskK (κ' I n b) j :=
  adNext_apply I n (by omega) (psum I n (K I n)) (K I n).ad b j (met b)
theorem cf_succ (hn : n < 11) (p : Fin 12) (b : Fin 128) (j : Fin 12) : (K I (n + 1)).cf (ix3 p b j)
    = ((K I n).cf (ix3 p b j) + if p.val = n then Row.sentK n (vK I (psum I n (K I n)) b) (aK n (K I n).ad b) j else 0) * Row.maskK (κ' I n b) j :=
  cfNext_apply I n (psum I n (K I n)) (K I n).ad (K I n).cf b j p (fun h => by subst h; rfl) (by omega) (met b)

include A in
/-- What a later node has received then is what is outstanding for it. -/
theorem na_succ (hn : n < 11) (b : Fin 128) (j : Fin 12) (hj : n + 1 ≤ j.val) :
    ((K I n).ad (ix2 b j) + σ I n b j) * Row.maskR (τ' I n b) j = (K I (n + 1)).ad (ix2 b j) := by
  have e : τ' I n b j = (K I n).ad (ix2 b j) + σ I n b j := congrArg (· + _) (if_neg (by omega))
  rw [ad_succ hn, next_eq A hn, mul_assoc, e, Row.maskR]

include A in
/-- The reference's feature, scaled, is the kernel's coefficients, scaled. -/
theorem nf_succ (hn : n < 11) (b : Fin 128) (j : Fin 12) (F : Fin 12 → EReal) :
    (∑ p : Fin 12, (K I n).cf (ix3 p b j) * F p + σ I n b j * F ⟨n, by omega⟩) * Row.maskK (κ' I n b) j
      = ∑ p : Fin 12, (K I (n + 1)).cf (ix3 p b j) * F p := by
  by_cases hw : Row.Win n j
  · have e : (∑ p : Fin 12, (K I n).cf (ix3 p b j) * F p + σ I n b j * F ⟨n, by omega⟩ : EReal)
        = ∑ p : Fin 12, (if p = ⟨n, by omega⟩ then σ I n b j else (K I n).cf (ix3 p b j)) * F p := by
      rw [← Finset.sum_erase_add _ _ (Finset.mem_univ (⟨n, by omega⟩ : Fin 12)),
        ← Finset.sum_erase_add (f := fun p : Fin 12 => (if p = ⟨n, by omega⟩ then σ I n b j else (K I n).cf (ix3 p b j)) * F p) _ (Finset.mem_univ (⟨n, by omega⟩ : Fin 12)),
        if_pos rfl, A.later ⟨n, by omega⟩ b j (le_refl _), zero_mul, add_zero]
      refine congrArg (· + _) (Finset.sum_congr rfl fun p hp => ?_)
      rw [if_neg (Finset.ne_of_mem_erase hp)]
    rw [e, sum_mul _ _ _ (Row.maskK_nonneg _ _) (Row.maskK_ne_top _ _)]
    refine Finset.sum_congr rfl fun p _ => ?_
    rw [cf_succ hn, Row.sent_win _ _ _ _ hw]
    by_cases hp : p.val = n
    · rw [if_pos (Fin.ext hp), if_pos hp, A.later p b j hp.ge, zero_add, mul_assoc, mul_comm (F p), ← mul_assoc]
    · rw [if_neg fun h => hp (congrArg Fin.val h), if_neg hp, add_zero, mul_assoc, mul_comm (F p), ← mul_assoc]
  · rw [mask_off A b j hw, mul_zero]
    refine (Finset.sum_eq_zero fun p _ => ?_).symm
    rw [cf_succ hn, mask_off A b j hw, mul_zero, zero_mul]

include M A in
theorem agree_succ (hn : n < 11) : Agree I s (n + 1) where
  ad b j := by
    rw [M.step n, Cert.ReferenceIdeal.Val.ad_step, got_eq M A hn, ad_succ hn, next_eq A hn]
  nonneg b j := by
    rw [ad_succ hn]; exact Row.next_nonneg _ j
  sup b j h := by
    rw [ad_succ hn] at h
    exact Row.next_sup n _ _ _ (a_nonneg A b) (A.sup b) j h
  na b j hj := by
    rw [M.step n, Cert.ReferenceIdeal.Val.na_step n (s n) (by omega), got_eq M A hn, sent_eq M A hn, A.na b j (by omega), if_neg (by omega), if_neg (by omega)]
    exact na_succ A hn b j hj
  x h := absurd h (by omega)
  nf j b d h w hj := by
    rw [M.step n, Cert.ReferenceIdeal.Val.nf_step n (s n) (by omega), got_eq M A hn, sent_eq M A hn, mask_eq A hn, A.nf j b d h w hj, ← feat_eq M A hn]
    exact nf_succ A hn b j fun p => Fv I p.val (pix h w) b d
  later p b j hp := by
    rw [cf_succ hn, A.later p b j (by omega), if_neg (by omega), add_zero, zero_mul]
  far p b j hp := by
    rw [cf_succ hn]
    by_cases e : p.val = n
    · rw [mask_off A b j (by unfold Row.Win; omega), mul_zero]
    · rw [A.far p b j hp, if_neg e, add_zero, zero_mul]
  cn h p b _ := cnNext_apply I n (by omega) (psum I n (K I n)) (K I n).ad (K I n).cf b p hn

include M in
theorem agree (k : ℕ) (hk : k < 12) : Agree I s k := by
  induction k with
  | zero => exact agree_zero I s M
  | succ k ih => exact agree_succ M (ih (by omega)) (by omega)

include M in
/-- The last node's feature. -/
theorem last_eq (b : Fin 128) (d : Fin 192) (h w : Fin 14) :
    agg 11 (K I 11) (pix h w) b d = Cert.ReferenceIdeal.Step.R_main_v10 (s 11) (ix4 b d h w) := by
  rw [Cert.ReferenceIdeal.Val.result_apply]
  exact agg_eq (agree M 11 (by omega)) (by omega) (by omega) b d h w

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Hand.KFrame
public import proofs.«01_k».proof.Proof.Hand.KIFrame
public import proofs.«01_k».proof.Proof.Hand.Value
public import proofs.«01_k».proof.Proof.Hand.Match
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel runs, keeps its arguments and leaves every counter at zero. -/
theorem frame_k : Cert.quiescent_Kernel := fun m ρ _ => Cert.Kernel.Hand.frame (F := Bits) m ρ

/-- The same of the idealized kernel. -/
theorem frame_ki : Cert.quiescent_KernelIdeal := fun m ρ _ => Cert.KernelIdeal.Hand.frame (F := Ideal) m ρ

/-- The reference runs and keeps its arguments; it declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: the mask value and the reciprocal of the number of pixels. -/
theorem preserves : Cert.preserves_Kernel_KernelIdeal :=
  ⟨IdealRules.named_const.statement Cert.KernelIdeal.κ "hw" .f32 0x3BA72F05#32 ((196⁻¹ : ℝ) : EReal) rfl,
    IdealRules.named_const.statement Cert.KernelIdeal.κ "mask" .f32 0xF149F2CA#32 ⊥ rfl⟩

/-- The reference's states: the arguments to start from, and one trip after another. -/
def states (m' : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m' c
  | n + 1 => Cert.ReferenceIdeal.Step.step n (states m' c n)

/-- They start from the arrays the kernel's launch meets when the arguments agree. -/
theorem meets (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.Match.Meets (Cert.KernelIdeal.Val.inp m c) (states m' c) where
  step _ := rfl
  x b d h w := (Cert.ReferenceIdeal.Val.nf_init _ _ _ _ _ _ _ _ (0 : Fin 12) b d h w).trans
    ((if_pos rfl).trans ((congrFun h0 (ix4 b d h w)).trans (Cert.KernelIdeal.Val.in_x m c h w b d).symm))
  rest j b d h w hj := (Cert.ReferenceIdeal.Val.nf_init _ _ _ _ _ _ _ _ j b d h w).trans (if_neg hj)
  na b j := Cert.ReferenceIdeal.Val.na_init _ _ _ _ _ _ _ _ b j
  ad b j := Cert.ReferenceIdeal.Val.ad_init _ _ _ _ _ _ _ _ b j
  wt k d e := (congrFun h6 _).trans (Cert.KernelIdeal.Val.in_wt m c k d e).symm
  P d k := (congrFun h7 (ix2 d k)).trans (congrFun (Cert.KernelIdeal.Val.in_P m c) (ix2 d k)).symm
  E j k := (congrFun h1 (ix2 j k)).trans (Cert.KernelIdeal.Val.in_E m c k j).symm
  mean j := (congrFun h4 (ix1 j)).trans (Cert.KernelIdeal.Val.in_mean m c j).symm
  var j := (congrFun h5 (ix1 j)).trans (Cert.KernelIdeal.Val.in_var m c j).symm
  gamma j := (congrFun h2 (ix1 j)).trans (Cert.KernelIdeal.Val.in_gamma m c j).symm
  beta j := (congrFun h3 (ix1 j)).trans (Cert.KernelIdeal.Val.in_beta m c j).symm

/-- The idealized kernel and the reference end with the same result, whatever the arguments. -/
theorem algebraic : Cert.algebraic_KernelIdeal_ReferenceIdeal := fun m g m' g' _ hm => by
  refine ⟨fun c => Cert.KernelIdeal.Val.kout m c, Cert.KernelIdeal.Val.kernel_run m g, ?_⟩
  refine (θ_run Cert.ReferenceIdeal.defs _ _).mono (fun r h c => ⟨(h c).1.trans ?_, (h c).2⟩)
    (Cert.ReferenceIdeal.StepRun.run_iter (F := Ideal) m' g' (states m') (fun _ => rfl) (fun _ _ => rfl))
  obtain ⟨h0, h1, h2, h3, h4, h5, h6, h7⟩ := hm c
  funext i
  obtain ⟨b, d, h, w, rfl⟩ : ∃ (b : Fin 128) (d : Fin 192) (h w : Fin 14), i = ix4 b d h w :=
    ⟨i 0, i 1, i 2, i 3, by funext a; fin_cases a <;> rfl⟩
  exact ((Cert.KernelIdeal.Val.kout_apply m c b d h w).trans (Cert.Match.last_eq (meets m m' c h0 h1 h2 h3 h4 h5 h6 h7) b d h w)).symm

theorem claim : Cert.Claim := ⟨Cert.Kernel.Gen.facts, Cert.KernelIdeal.Gen.facts, Cert.ReferenceIdeal.Gen.facts,
  frame_k, frame_ki, frame_ri, preserves, algebraic⟩

end Cert.Proof

end
